-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S45 : Shape := ⟨1, ![45]⟩
abbrev S_ : Shape := ⟨0, ![]⟩
abbrev S1 : Shape := ⟨1, ![1]⟩
abbrev S80x512 : Shape := ⟨2, ![80, 512]⟩
abbrev S64x512 : Shape := ⟨2, ![64, 512]⟩
abbrev S32x512 : Shape := ⟨2, ![32, 512]⟩
abbrev S40x512 : Shape := ⟨2, ![40, 512]⟩
abbrev S16x512 : Shape := ⟨2, ![16, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 1 92 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_16 : BitVec 32 := 1#32
  let v44 : BitVec 32 := Scalar.muli v40 c1_i32_16
  let v45 : BitVec 32 := Scalar.addi c0_i32_17 v44
  v45.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_19 : BitVec 32 := 1#32
  let v46 : BitVec 32 := Scalar.muli v41 c1_i32_19
  let v47 : BitVec 32 := Scalar.addi c0_i32_20 v46
  v47.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_22 : BitVec 32 := 1#32
  let v48 : BitVec 32 := Scalar.muli v42 c1_i32_22
  let v49 : BitVec 32 := Scalar.addi c0_i32_23 v48
  v49.toNat
def k0_off1 (d0 : Dev nD) : Fin 2 → Nat :=
  let c0_i32_59 : BitVec 32 := 0#32
  let c1_i32_57 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let v104 : BitVec 32 := Scalar.subi c1_i32_57 v39
  let c80_i32_58 : BitVec 32 := 80#32
  let v105 : BitVec 32 := Scalar.muli v104 c80_i32_58
  let v106 : BitVec 32 := Scalar.addi c0_i32_59 v105
  let c0_i32_66 : BitVec 32 := 0#32
  ![v106.toNat, 0]
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_62 : BitVec 32 := 1#32
  let v107 : BitVec 32 := Scalar.muli v40 c1_i32_62
  let v108 : BitVec 32 := Scalar.addi c0_i32_63 v107
  v108.toNat
def k0_off2 (d0 : Dev nD) : Fin 2 → Nat :=
  let c352_i32_69 : BitVec 32 := 352#32
  let c1_i32_67 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v115 : BitVec 32 := Scalar.subi c1_i32_67 v37
  let c80_i32_68 : BitVec 32 := 80#32
  let v116 : BitVec 32 := Scalar.muli v115 c80_i32_68
  let v117 : BitVec 32 := Scalar.addi c352_i32_69 v116
  let c0_i32_75 : BitVec 32 := 0#32
  ![v117.toNat, 0]
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_71 : BitVec 32 := 1#32
  let v118 : BitVec 32 := Scalar.muli v41 c1_i32_71
  let v119 : BitVec 32 := Scalar.addi c0_i32_72 v118
  v119.toNat
def k0_off3 (d0 : Dev nD) (c704_i32_78 : BitVec 32) : Fin 2 → Nat :=
  let c1_i32_76 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v126 : BitVec 32 := Scalar.subi c1_i32_76 v20
  let c64_i32_77 : BitVec 32 := 64#32
  let v127 : BitVec 32 := Scalar.muli v126 c64_i32_77
  let v128 : BitVec 32 := Scalar.addi c704_i32_78 v127
  let c0_i32_84 : BitVec 32 := 0#32
  ![v128.toNat, 0]
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_80 : BitVec 32 := 1#32
  let v129 : BitVec 32 := Scalar.muli v42 c1_i32_80
  let v130 : BitVec 32 := Scalar.addi c0_i32_81 v129
  v130.toNat
def k0_off4 (d0 : Dev nD) : Fin 2 → Nat :=
  let c160_i32_87 : BitVec 32 := 160#32
  let c1_i32_85 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let v137 : BitVec 32 := Scalar.subi c1_i32_85 v39
  let c64_i32_86 : BitVec 32 := 64#32
  let v138 : BitVec 32 := Scalar.muli v137 c64_i32_86
  let v139 : BitVec 32 := Scalar.addi c160_i32_87 v138
  let c0_i32_93 : BitVec 32 := 0#32
  ![v139.toNat, 0]
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_89 : BitVec 32 := 1#32
  let v140 : BitVec 32 := Scalar.muli v40 c1_i32_89
  let v141 : BitVec 32 := Scalar.addi c0_i32_90 v140
  v141.toNat
def k0_off5 (d0 : Dev nD) : Fin 2 → Nat :=
  let c512_i32_96 : BitVec 32 := 512#32
  let c1_i32_94 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v148 : BitVec 32 := Scalar.subi c1_i32_94 v37
  let c64_i32_95 : BitVec 32 := 64#32
  let v149 : BitVec 32 := Scalar.muli v148 c64_i32_95
  let v150 : BitVec 32 := Scalar.addi c512_i32_96 v149
  let c0_i32_102 : BitVec 32 := 0#32
  ![v150.toNat, 0]
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_98 : BitVec 32 := 1#32
  let v151 : BitVec 32 := Scalar.muli v41 c1_i32_98
  let v152 : BitVec 32 := Scalar.addi c0_i32_99 v151
  v152.toNat
def k0_dev9 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_107 : BitVec 32 := 1#32
  let v162 : BitVec 32 := Scalar.muli v42 c1_i32_107
  let v163 : BitVec 32 := Scalar.addi c0_i32_108 v162
  v163.toNat
def k0_off6 (d0 : Dev nD) : Fin 2 → Nat :=
  let c288_i32_114 : BitVec 32 := 288#32
  let c1_i32_112 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let v170 : BitVec 32 := Scalar.subi c1_i32_112 v39
  let c32_i32_113 : BitVec 32 := 32#32
  let v171 : BitVec 32 := Scalar.muli v170 c32_i32_113
  let v172 : BitVec 32 := Scalar.addi c288_i32_114 v171
  let c0_i32_120 : BitVec 32 := 0#32
  ![v172.toNat, 0]
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_116 : BitVec 32 := 1#32
  let v173 : BitVec 32 := Scalar.muli v40 c1_i32_116
  let v174 : BitVec 32 := Scalar.addi c0_i32_117 v173
  v174.toNat
def k0_off7 (d0 : Dev nD) : Fin 2 → Nat :=
  let c640_i32_123 : BitVec 32 := 640#32
  let c1_i32_121 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v181 : BitVec 32 := Scalar.subi c1_i32_121 v37
  let c32_i32_122 : BitVec 32 := 32#32
  let v182 : BitVec 32 := Scalar.muli v181 c32_i32_122
  let v183 : BitVec 32 := Scalar.addi c640_i32_123 v182
  let c0_i32_129 : BitVec 32 := 0#32
  ![v183.toNat, 0]
def k0_dev11 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_125 : BitVec 32 := 1#32
  let v184 : BitVec 32 := Scalar.muli v41 c1_i32_125
  let v185 : BitVec 32 := Scalar.addi c0_i32_126 v184
  v185.toNat
def k0_off8 (d0 : Dev nD) : Fin 2 → Nat :=
  let c960_i32_132 : BitVec 32 := 960#32
  let c1_i32_130 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v192 : BitVec 32 := Scalar.subi c1_i32_130 v20
  let c32_i32_131 : BitVec 32 := 32#32
  let v193 : BitVec 32 := Scalar.muli v192 c32_i32_131
  let v194 : BitVec 32 := Scalar.addi c960_i32_132 v193
  let c0_i32_139 : BitVec 32 := 0#32
  ![v194.toNat, 0]
def k0_dev12 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_135 : BitVec 32 := 1#32
  let v195 : BitVec 32 := Scalar.muli v42 c1_i32_135
  let v196 : BitVec 32 := Scalar.addi c0_i32_136 v195
  v196.toNat
def k0_off9 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c80_i32 : BitVec 32 := 80#32
  let v50 : BitVec 32 := Scalar.muli v39 c80_i32
  let v51 : BitVec 32 := Scalar.addi c0_i32_25 v50
  let c1_i32_153 : BitVec 32 := 1#32
  let v213 : BitVec 32 := Scalar.subi c1_i32_153 v37
  let c40_i32_154 : BitVec 32 := 40#32
  let v214 : BitVec 32 := Scalar.muli v213 c40_i32_154
  let v215 : BitVec 32 := Scalar.addi v51 v214
  let v219 : Index := Scalar.indexCast v215
  let c0 : Index := 0#32
  ![v219.toNat, 0]
def k0_off10 (d0 : Dev nD) : Fin 2 → Nat :=
  let c0_i32_157 : BitVec 32 := 0#32
  let c1_i32_155 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v216 : BitVec 32 := Scalar.subi c1_i32_155 v37
  let c40_i32_156 : BitVec 32 := 40#32
  let v217 : BitVec 32 := Scalar.muli v216 c40_i32_156
  let v218 : BitVec 32 := Scalar.addi c0_i32_157 v217
  let v222 : Index := Scalar.indexCast v218
  let c0_158 : Index := 0#32
  ![v222.toNat, 0]
def k0_off11 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c80_i32 : BitVec 32 := 80#32
  let v50 : BitVec 32 := Scalar.muli v39 c80_i32
  let v51 : BitVec 32 := Scalar.addi c0_i32_25 v50
  let c1_i32_153 : BitVec 32 := 1#32
  let v213 : BitVec 32 := Scalar.subi c1_i32_153 v37
  let c40_i32_154 : BitVec 32 := 40#32
  let v214 : BitVec 32 := Scalar.muli v213 c40_i32_154
  let v215 : BitVec 32 := Scalar.addi v51 v214
  let c0_i32_166 : BitVec 32 := 0#32
  ![v215.toNat, 0]
def k0_dev13 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_162 : BitVec 32 := 1#32
  let v227 : BitVec 32 := Scalar.muli v41 c1_i32_162
  let v228 : BitVec 32 := Scalar.addi c0_i32_163 v227
  v228.toNat
def k0_off12 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c80_i32_26 : BitVec 32 := 80#32
  let v52 : BitVec 32 := Scalar.muli v39 c80_i32_26
  let v53 : BitVec 32 := Scalar.addi c0_i32_27 v52
  let c40_i32 : BitVec 32 := 40#32
  let v54 : BitVec 32 := Scalar.muli v37 c40_i32
  let v55 : BitVec 32 := Scalar.addi v53 v54
  let v237 : Index := Scalar.indexCast v55
  let c0_169 : Index := 0#32
  ![v237.toNat, 0]
def k0_off13 (d0 : Dev nD) : Fin 2 → Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c40_i32_167 : BitVec 32 := 40#32
  let v235 : BitVec 32 := Scalar.muli v37 c40_i32_167
  let v236 : BitVec 32 := Scalar.addi c0_i32_168 v235
  let v240 : Index := Scalar.indexCast v236
  let c0_170 : Index := 0#32
  ![v240.toNat, 0]
def k0_off14 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c80_i32_28 : BitVec 32 := 80#32
  let v56 : BitVec 32 := Scalar.muli v37 c80_i32_28
  let v57 : BitVec 32 := Scalar.addi c352_i32 v56
  let c1_i32_185 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v255 : BitVec 32 := Scalar.subi c1_i32_185 v20
  let c40_i32_186 : BitVec 32 := 40#32
  let v256 : BitVec 32 := Scalar.muli v255 c40_i32_186
  let v257 : BitVec 32 := Scalar.addi v57 v256
  let v261 : Index := Scalar.indexCast v257
  let c0_190 : Index := 0#32
  ![v261.toNat, 0]
def k0_off15 (d0 : Dev nD) : Fin 2 → Nat :=
  let c352_i32_189 : BitVec 32 := 352#32
  let c1_i32_187 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v258 : BitVec 32 := Scalar.subi c1_i32_187 v20
  let c40_i32_188 : BitVec 32 := 40#32
  let v259 : BitVec 32 := Scalar.muli v258 c40_i32_188
  let v260 : BitVec 32 := Scalar.addi c352_i32_189 v259
  let v264 : Index := Scalar.indexCast v260
  let c0_191 : Index := 0#32
  ![v264.toNat, 0]
def k0_off16 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c80_i32_28 : BitVec 32 := 80#32
  let v56 : BitVec 32 := Scalar.muli v37 c80_i32_28
  let v57 : BitVec 32 := Scalar.addi c352_i32 v56
  let c1_i32_185 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v255 : BitVec 32 := Scalar.subi c1_i32_185 v20
  let c40_i32_186 : BitVec 32 := 40#32
  let v256 : BitVec 32 := Scalar.muli v255 c40_i32_186
  let v257 : BitVec 32 := Scalar.addi v57 v256
  let c0_i32_197 : BitVec 32 := 0#32
  ![v257.toNat, 0]
def k0_dev14 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_194 : BitVec 32 := 1#32
  let v269 : BitVec 32 := Scalar.muli v42 c1_i32_194
  let v270 : BitVec 32 := Scalar.addi c0_i32_195 v269
  v270.toNat
def k0_off17 (d0 : Dev nD) : Fin 2 → Nat :=
  let c352_i32_30 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c80_i32_29 : BitVec 32 := 80#32
  let v58 : BitVec 32 := Scalar.muli v37 c80_i32_29
  let v59 : BitVec 32 := Scalar.addi c352_i32_30 v58
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c40_i32_31 : BitVec 32 := 40#32
  let v60 : BitVec 32 := Scalar.muli v20 c40_i32_31
  let v61 : BitVec 32 := Scalar.addi v59 v60
  let v279 : Index := Scalar.indexCast v61
  let c0_200 : Index := 0#32
  ![v279.toNat, 0]
def k0_off18 (d0 : Dev nD) : Fin 2 → Nat :=
  let c352_i32_199 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c40_i32_198 : BitVec 32 := 40#32
  let v277 : BitVec 32 := Scalar.muli v20 c40_i32_198
  let v278 : BitVec 32 := Scalar.addi c352_i32_199 v277
  let v282 : Index := Scalar.indexCast v278
  let c0_201 : Index := 0#32
  ![v282.toNat, 0]
def k0_off19 (d0 : Dev nD) (c704_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c64_i32 : BitVec 32 := 64#32
  let v62 : BitVec 32 := Scalar.muli v20 c64_i32
  let v63 : BitVec 32 := Scalar.addi c704_i32 v62
  let c1_i32_216 : BitVec 32 := 1#32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let v297 : BitVec 32 := Scalar.subi c1_i32_216 v39
  let c32_i32_217 : BitVec 32 := 32#32
  let v298 : BitVec 32 := Scalar.muli v297 c32_i32_217
  let v299 : BitVec 32 := Scalar.addi v63 v298
  let v303 : Index := Scalar.indexCast v299
  let c0_221 : Index := 0#32
  ![v303.toNat, 0]
def k0_off20 (d0 : Dev nD) (c704_i32_220 : BitVec 32) : Fin 2 → Nat :=
  let c1_i32_218 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let v300 : BitVec 32 := Scalar.subi c1_i32_218 v39
  let c32_i32_219 : BitVec 32 := 32#32
  let v301 : BitVec 32 := Scalar.muli v300 c32_i32_219
  let v302 : BitVec 32 := Scalar.addi c704_i32_220 v301
  let v306 : Index := Scalar.indexCast v302
  let c0_222 : Index := 0#32
  ![v306.toNat, 0]
def k0_off21 (d0 : Dev nD) (c704_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c64_i32 : BitVec 32 := 64#32
  let v62 : BitVec 32 := Scalar.muli v20 c64_i32
  let v63 : BitVec 32 := Scalar.addi c704_i32 v62
  let c1_i32_216 : BitVec 32 := 1#32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let v297 : BitVec 32 := Scalar.subi c1_i32_216 v39
  let c32_i32_217 : BitVec 32 := 32#32
  let v298 : BitVec 32 := Scalar.muli v297 c32_i32_217
  let v299 : BitVec 32 := Scalar.addi v63 v298
  let c0_i32_228 : BitVec 32 := 0#32
  ![v299.toNat, 0]
def k0_dev15 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_225 : BitVec 32 := 1#32
  let v311 : BitVec 32 := Scalar.muli v40 c1_i32_225
  let v312 : BitVec 32 := Scalar.addi c0_i32_226 v311
  v312.toNat
def k0_off22 (d0 : Dev nD) (c704_i32_33 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c64_i32_32 : BitVec 32 := 64#32
  let v64 : BitVec 32 := Scalar.muli v20 c64_i32_32
  let v65 : BitVec 32 := Scalar.addi c704_i32_33 v64
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c32_i32 : BitVec 32 := 32#32
  let v66 : BitVec 32 := Scalar.muli v39 c32_i32
  let v67 : BitVec 32 := Scalar.addi v65 v66
  let v321 : Index := Scalar.indexCast v67
  let c0_231 : Index := 0#32
  ![v321.toNat, 0]
def k0_off23 (d0 : Dev nD) (c704_i32_230 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c32_i32_229 : BitVec 32 := 32#32
  let v319 : BitVec 32 := Scalar.muli v39 c32_i32_229
  let v320 : BitVec 32 := Scalar.addi c704_i32_230 v319
  let v324 : Index := Scalar.indexCast v320
  let c0_232 : Index := 0#32
  ![v324.toNat, 0]
def k0_off24 (d0 : Dev nD) : Fin 2 → Nat :=
  let c160_i32 : BitVec 32 := 160#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c64_i32_34 : BitVec 32 := 64#32
  let v68 : BitVec 32 := Scalar.muli v39 c64_i32_34
  let v69 : BitVec 32 := Scalar.addi c160_i32 v68
  let c1_i32_247 : BitVec 32 := 1#32
  let v339 : BitVec 32 := Scalar.subi c1_i32_247 v37
  let c32_i32_248 : BitVec 32 := 32#32
  let v340 : BitVec 32 := Scalar.muli v339 c32_i32_248
  let v341 : BitVec 32 := Scalar.addi v69 v340
  let v345 : Index := Scalar.indexCast v341
  let c0_252 : Index := 0#32
  ![v345.toNat, 0]
def k0_off25 (d0 : Dev nD) : Fin 2 → Nat :=
  let c160_i32_251 : BitVec 32 := 160#32
  let c1_i32_249 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v342 : BitVec 32 := Scalar.subi c1_i32_249 v37
  let c32_i32_250 : BitVec 32 := 32#32
  let v343 : BitVec 32 := Scalar.muli v342 c32_i32_250
  let v344 : BitVec 32 := Scalar.addi c160_i32_251 v343
  let v348 : Index := Scalar.indexCast v344
  let c0_253 : Index := 0#32
  ![v348.toNat, 0]
def k0_off26 (d0 : Dev nD) : Fin 2 → Nat :=
  let c160_i32 : BitVec 32 := 160#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c64_i32_34 : BitVec 32 := 64#32
  let v68 : BitVec 32 := Scalar.muli v39 c64_i32_34
  let v69 : BitVec 32 := Scalar.addi c160_i32 v68
  let c1_i32_247 : BitVec 32 := 1#32
  let v339 : BitVec 32 := Scalar.subi c1_i32_247 v37
  let c32_i32_248 : BitVec 32 := 32#32
  let v340 : BitVec 32 := Scalar.muli v339 c32_i32_248
  let v341 : BitVec 32 := Scalar.addi v69 v340
  let c0_i32_260 : BitVec 32 := 0#32
  ![v341.toNat, 0]
def k0_dev16 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_257 : BitVec 32 := 1#32
  let v353 : BitVec 32 := Scalar.muli v41 c1_i32_257
  let v354 : BitVec 32 := Scalar.addi c0_i32_258 v353
  v354.toNat
def k0_off27 (d0 : Dev nD) : Fin 2 → Nat :=
  let c160_i32_36 : BitVec 32 := 160#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c64_i32_35 : BitVec 32 := 64#32
  let v70 : BitVec 32 := Scalar.muli v39 c64_i32_35
  let v71 : BitVec 32 := Scalar.addi c160_i32_36 v70
  let c32_i32_37 : BitVec 32 := 32#32
  let v72 : BitVec 32 := Scalar.muli v37 c32_i32_37
  let v73 : BitVec 32 := Scalar.addi v71 v72
  let v363 : Index := Scalar.indexCast v73
  let c0_263 : Index := 0#32
  ![v363.toNat, 0]
def k0_off28 (d0 : Dev nD) : Fin 2 → Nat :=
  let c160_i32_262 : BitVec 32 := 160#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c32_i32_261 : BitVec 32 := 32#32
  let v361 : BitVec 32 := Scalar.muli v37 c32_i32_261
  let v362 : BitVec 32 := Scalar.addi c160_i32_262 v361
  let v366 : Index := Scalar.indexCast v362
  let c0_264 : Index := 0#32
  ![v366.toNat, 0]
def k0_off29 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c64_i32_38 : BitVec 32 := 64#32
  let v74 : BitVec 32 := Scalar.muli v37 c64_i32_38
  let v75 : BitVec 32 := Scalar.addi c512_i32 v74
  let c1_i32_279 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v381 : BitVec 32 := Scalar.subi c1_i32_279 v20
  let c32_i32_280 : BitVec 32 := 32#32
  let v382 : BitVec 32 := Scalar.muli v381 c32_i32_280
  let v383 : BitVec 32 := Scalar.addi v75 v382
  let v387 : Index := Scalar.indexCast v383
  let c0_284 : Index := 0#32
  ![v387.toNat, 0]
def k0_off30 (d0 : Dev nD) : Fin 2 → Nat :=
  let c512_i32_283 : BitVec 32 := 512#32
  let c1_i32_281 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v384 : BitVec 32 := Scalar.subi c1_i32_281 v20
  let c32_i32_282 : BitVec 32 := 32#32
  let v385 : BitVec 32 := Scalar.muli v384 c32_i32_282
  let v386 : BitVec 32 := Scalar.addi c512_i32_283 v385
  let v390 : Index := Scalar.indexCast v386
  let c0_285 : Index := 0#32
  ![v390.toNat, 0]
def k0_off31 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c64_i32_38 : BitVec 32 := 64#32
  let v74 : BitVec 32 := Scalar.muli v37 c64_i32_38
  let v75 : BitVec 32 := Scalar.addi c512_i32 v74
  let c1_i32_279 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v381 : BitVec 32 := Scalar.subi c1_i32_279 v20
  let c32_i32_280 : BitVec 32 := 32#32
  let v382 : BitVec 32 := Scalar.muli v381 c32_i32_280
  let v383 : BitVec 32 := Scalar.addi v75 v382
  let c0_i32_291 : BitVec 32 := 0#32
  ![v383.toNat, 0]
def k0_dev17 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_288 : BitVec 32 := 1#32
  let v395 : BitVec 32 := Scalar.muli v42 c1_i32_288
  let v396 : BitVec 32 := Scalar.addi c0_i32_289 v395
  v396.toNat
def k0_off32 (d0 : Dev nD) : Fin 2 → Nat :=
  let c512_i32_40 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c64_i32_39 : BitVec 32 := 64#32
  let v76 : BitVec 32 := Scalar.muli v37 c64_i32_39
  let v77 : BitVec 32 := Scalar.addi c512_i32_40 v76
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c32_i32_41 : BitVec 32 := 32#32
  let v78 : BitVec 32 := Scalar.muli v20 c32_i32_41
  let v79 : BitVec 32 := Scalar.addi v77 v78
  let v405 : Index := Scalar.indexCast v79
  let c0_294 : Index := 0#32
  ![v405.toNat, 0]
def k0_off33 (d0 : Dev nD) : Fin 2 → Nat :=
  let c512_i32_293 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c32_i32_292 : BitVec 32 := 32#32
  let v403 : BitVec 32 := Scalar.muli v20 c32_i32_292
  let v404 : BitVec 32 := Scalar.addi c512_i32_293 v403
  let v408 : Index := Scalar.indexCast v404
  let c0_295 : Index := 0#32
  ![v408.toNat, 0]
def k0_dev18 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_319 : BitVec 32 := 1#32
  let v437 : BitVec 32 := Scalar.muli v40 c1_i32_319
  let v438 : BitVec 32 := Scalar.addi c0_i32_320 v437
  v438.toNat
def k0_off34 (d0 : Dev nD) : Fin 2 → Nat :=
  let c288_i32 : BitVec 32 := 288#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c32_i32_46 : BitVec 32 := 32#32
  let v86 : BitVec 32 := Scalar.muli v39 c32_i32_46
  let v87 : BitVec 32 := Scalar.addi c288_i32 v86
  let c1_i32_341 : BitVec 32 := 1#32
  let v465 : BitVec 32 := Scalar.subi c1_i32_341 v37
  let c16_i32_342 : BitVec 32 := 16#32
  let v466 : BitVec 32 := Scalar.muli v465 c16_i32_342
  let v467 : BitVec 32 := Scalar.addi v87 v466
  let v471 : Index := Scalar.indexCast v467
  let c0_346 : Index := 0#32
  ![v471.toNat, 0]
def k0_off35 (d0 : Dev nD) : Fin 2 → Nat :=
  let c288_i32_345 : BitVec 32 := 288#32
  let c1_i32_343 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v468 : BitVec 32 := Scalar.subi c1_i32_343 v37
  let c16_i32_344 : BitVec 32 := 16#32
  let v469 : BitVec 32 := Scalar.muli v468 c16_i32_344
  let v470 : BitVec 32 := Scalar.addi c288_i32_345 v469
  let v474 : Index := Scalar.indexCast v470
  let c0_347 : Index := 0#32
  ![v474.toNat, 0]
def k0_off36 (d0 : Dev nD) : Fin 2 → Nat :=
  let c288_i32 : BitVec 32 := 288#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c32_i32_46 : BitVec 32 := 32#32
  let v86 : BitVec 32 := Scalar.muli v39 c32_i32_46
  let v87 : BitVec 32 := Scalar.addi c288_i32 v86
  let c1_i32_341 : BitVec 32 := 1#32
  let v465 : BitVec 32 := Scalar.subi c1_i32_341 v37
  let c16_i32_342 : BitVec 32 := 16#32
  let v466 : BitVec 32 := Scalar.muli v465 c16_i32_342
  let v467 : BitVec 32 := Scalar.addi v87 v466
  let c0_i32_353 : BitVec 32 := 0#32
  ![v467.toNat, 0]
def k0_dev19 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_350 : BitVec 32 := 1#32
  let v479 : BitVec 32 := Scalar.muli v41 c1_i32_350
  let v480 : BitVec 32 := Scalar.addi c0_i32_351 v479
  v480.toNat
def k0_off37 (d0 : Dev nD) : Fin 2 → Nat :=
  let c288_i32_48 : BitVec 32 := 288#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c32_i32_47 : BitVec 32 := 32#32
  let v88 : BitVec 32 := Scalar.muli v39 c32_i32_47
  let v89 : BitVec 32 := Scalar.addi c288_i32_48 v88
  let c16_i32 : BitVec 32 := 16#32
  let v90 : BitVec 32 := Scalar.muli v37 c16_i32
  let v91 : BitVec 32 := Scalar.addi v89 v90
  let v489 : Index := Scalar.indexCast v91
  let c0_356 : Index := 0#32
  ![v489.toNat, 0]
def k0_off38 (d0 : Dev nD) : Fin 2 → Nat :=
  let c288_i32_355 : BitVec 32 := 288#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c16_i32_354 : BitVec 32 := 16#32
  let v487 : BitVec 32 := Scalar.muli v37 c16_i32_354
  let v488 : BitVec 32 := Scalar.addi c288_i32_355 v487
  let v492 : Index := Scalar.indexCast v488
  let c0_357 : Index := 0#32
  ![v492.toNat, 0]
def k0_off39 (d0 : Dev nD) : Fin 2 → Nat :=
  let c640_i32 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c32_i32_49 : BitVec 32 := 32#32
  let v92 : BitVec 32 := Scalar.muli v37 c32_i32_49
  let v93 : BitVec 32 := Scalar.addi c640_i32 v92
  let c1_i32_372 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v507 : BitVec 32 := Scalar.subi c1_i32_372 v20
  let c16_i32_373 : BitVec 32 := 16#32
  let v508 : BitVec 32 := Scalar.muli v507 c16_i32_373
  let v509 : BitVec 32 := Scalar.addi v93 v508
  let v513 : Index := Scalar.indexCast v509
  let c0_377 : Index := 0#32
  ![v513.toNat, 0]
def k0_off40 (d0 : Dev nD) : Fin 2 → Nat :=
  let c640_i32_376 : BitVec 32 := 640#32
  let c1_i32_374 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v510 : BitVec 32 := Scalar.subi c1_i32_374 v20
  let c16_i32_375 : BitVec 32 := 16#32
  let v511 : BitVec 32 := Scalar.muli v510 c16_i32_375
  let v512 : BitVec 32 := Scalar.addi c640_i32_376 v511
  let v516 : Index := Scalar.indexCast v512
  let c0_378 : Index := 0#32
  ![v516.toNat, 0]
def k0_off41 (d0 : Dev nD) : Fin 2 → Nat :=
  let c640_i32 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c32_i32_49 : BitVec 32 := 32#32
  let v92 : BitVec 32 := Scalar.muli v37 c32_i32_49
  let v93 : BitVec 32 := Scalar.addi c640_i32 v92
  let c1_i32_372 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v507 : BitVec 32 := Scalar.subi c1_i32_372 v20
  let c16_i32_373 : BitVec 32 := 16#32
  let v508 : BitVec 32 := Scalar.muli v507 c16_i32_373
  let v509 : BitVec 32 := Scalar.addi v93 v508
  let c0_i32_384 : BitVec 32 := 0#32
  ![v509.toNat, 0]
def k0_dev20 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_381 : BitVec 32 := 1#32
  let v521 : BitVec 32 := Scalar.muli v42 c1_i32_381
  let v522 : BitVec 32 := Scalar.addi c0_i32_382 v521
  v522.toNat
def k0_off42 (d0 : Dev nD) : Fin 2 → Nat :=
  let c640_i32_51 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c32_i32_50 : BitVec 32 := 32#32
  let v94 : BitVec 32 := Scalar.muli v37 c32_i32_50
  let v95 : BitVec 32 := Scalar.addi c640_i32_51 v94
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c16_i32_52 : BitVec 32 := 16#32
  let v96 : BitVec 32 := Scalar.muli v20 c16_i32_52
  let v97 : BitVec 32 := Scalar.addi v95 v96
  let v531 : Index := Scalar.indexCast v97
  let c0_387 : Index := 0#32
  ![v531.toNat, 0]
def k0_off43 (d0 : Dev nD) : Fin 2 → Nat :=
  let c640_i32_386 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c16_i32_385 : BitVec 32 := 16#32
  let v529 : BitVec 32 := Scalar.muli v20 c16_i32_385
  let v530 : BitVec 32 := Scalar.addi c640_i32_386 v529
  let v534 : Index := Scalar.indexCast v530
  let c0_388 : Index := 0#32
  ![v534.toNat, 0]
def k0_off44 (d0 : Dev nD) : Fin 2 → Nat :=
  let c960_i32 : BitVec 32 := 960#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c32_i32_53 : BitVec 32 := 32#32
  let v98 : BitVec 32 := Scalar.muli v20 c32_i32_53
  let v99 : BitVec 32 := Scalar.addi c960_i32 v98
  let c1_i32_403 : BitVec 32 := 1#32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let v549 : BitVec 32 := Scalar.subi c1_i32_403 v39
  let c16_i32_404 : BitVec 32 := 16#32
  let v550 : BitVec 32 := Scalar.muli v549 c16_i32_404
  let v551 : BitVec 32 := Scalar.addi v99 v550
  let v555 : Index := Scalar.indexCast v551
  let c0_408 : Index := 0#32
  ![v555.toNat, 0]
def k0_off45 (d0 : Dev nD) : Fin 2 → Nat :=
  let c960_i32_407 : BitVec 32 := 960#32
  let c1_i32_405 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let v552 : BitVec 32 := Scalar.subi c1_i32_405 v39
  let c16_i32_406 : BitVec 32 := 16#32
  let v553 : BitVec 32 := Scalar.muli v552 c16_i32_406
  let v554 : BitVec 32 := Scalar.addi c960_i32_407 v553
  let v558 : Index := Scalar.indexCast v554
  let c0_409 : Index := 0#32
  ![v558.toNat, 0]
def k0_off46 (d0 : Dev nD) : Fin 2 → Nat :=
  let c960_i32 : BitVec 32 := 960#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c32_i32_53 : BitVec 32 := 32#32
  let v98 : BitVec 32 := Scalar.muli v20 c32_i32_53
  let v99 : BitVec 32 := Scalar.addi c960_i32 v98
  let c1_i32_403 : BitVec 32 := 1#32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let v549 : BitVec 32 := Scalar.subi c1_i32_403 v39
  let c16_i32_404 : BitVec 32 := 16#32
  let v550 : BitVec 32 := Scalar.muli v549 c16_i32_404
  let v551 : BitVec 32 := Scalar.addi v99 v550
  let c0_i32_415 : BitVec 32 := 0#32
  ![v551.toNat, 0]
def k0_dev21 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_412 : BitVec 32 := 1#32
  let v563 : BitVec 32 := Scalar.muli v40 c1_i32_412
  let v564 : BitVec 32 := Scalar.addi c0_i32_413 v563
  v564.toNat
def k0_off47 (d0 : Dev nD) : Fin 2 → Nat :=
  let c960_i32_55 : BitVec 32 := 960#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c32_i32_54 : BitVec 32 := 32#32
  let v100 : BitVec 32 := Scalar.muli v20 c32_i32_54
  let v101 : BitVec 32 := Scalar.addi c960_i32_55 v100
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c16_i32_56 : BitVec 32 := 16#32
  let v102 : BitVec 32 := Scalar.muli v39 c16_i32_56
  let v103 : BitVec 32 := Scalar.addi v101 v102
  let v573 : Index := Scalar.indexCast v103
  let c0_418 : Index := 0#32
  ![v573.toNat, 0]
def k0_off48 (d0 : Dev nD) : Fin 2 → Nat :=
  let c960_i32_417 : BitVec 32 := 960#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c16_i32_416 : BitVec 32 := 16#32
  let v571 : BitVec 32 := Scalar.muli v39 c16_i32_416
  let v572 : BitVec 32 := Scalar.addi c960_i32_417 v571
  let v576 : Index := Scalar.indexCast v572
  let c0_419 : Index := 0#32
  ![v576.toNat, 0]
def k0_off49 (d0 : Dev nD) : Fin 2 → Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c80_i32_26 : BitVec 32 := 80#32
  let v52 : BitVec 32 := Scalar.muli v39 c80_i32_26
  let v53 : BitVec 32 := Scalar.addi c0_i32_27 v52
  let c40_i32 : BitVec 32 := 40#32
  let v54 : BitVec 32 := Scalar.muli v37 c40_i32
  let v55 : BitVec 32 := Scalar.addi v53 v54
  let c0_i32_442 : BitVec 32 := 0#32
  ![v55.toNat, 0]
def k0_dev22 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_439 : BitVec 32 := 1#32
  let v598 : BitVec 32 := Scalar.muli v42 c1_i32_439
  let v599 : BitVec 32 := Scalar.addi c0_i32_440 v598
  v599.toNat
def k0_off50 (d0 : Dev nD) : Fin 2 → Nat :=
  let c352_i32_30 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c80_i32_29 : BitVec 32 := 80#32
  let v58 : BitVec 32 := Scalar.muli v37 c80_i32_29
  let v59 : BitVec 32 := Scalar.addi c352_i32_30 v58
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c40_i32_31 : BitVec 32 := 40#32
  let v60 : BitVec 32 := Scalar.muli v20 c40_i32_31
  let v61 : BitVec 32 := Scalar.addi v59 v60
  let c0_i32_463 : BitVec 32 := 0#32
  ![v61.toNat, 0]
def k0_dev23 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_460 : BitVec 32 := 1#32
  let v623 : BitVec 32 := Scalar.muli v40 c1_i32_460
  let v624 : BitVec 32 := Scalar.addi c0_i32_461 v623
  v624.toNat
def k0_off51 (d0 : Dev nD) (c704_i32_33 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c64_i32_32 : BitVec 32 := 64#32
  let v64 : BitVec 32 := Scalar.muli v20 c64_i32_32
  let v65 : BitVec 32 := Scalar.addi c704_i32_33 v64
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c32_i32 : BitVec 32 := 32#32
  let v66 : BitVec 32 := Scalar.muli v39 c32_i32
  let v67 : BitVec 32 := Scalar.addi v65 v66
  let c0_i32_484 : BitVec 32 := 0#32
  ![v67.toNat, 0]
def k0_dev24 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_481 : BitVec 32 := 1#32
  let v648 : BitVec 32 := Scalar.muli v41 c1_i32_481
  let v649 : BitVec 32 := Scalar.addi c0_i32_482 v648
  v649.toNat
def k0_off52 (d0 : Dev nD) : Fin 2 → Nat :=
  let c160_i32_36 : BitVec 32 := 160#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c64_i32_35 : BitVec 32 := 64#32
  let v70 : BitVec 32 := Scalar.muli v39 c64_i32_35
  let v71 : BitVec 32 := Scalar.addi c160_i32_36 v70
  let c32_i32_37 : BitVec 32 := 32#32
  let v72 : BitVec 32 := Scalar.muli v37 c32_i32_37
  let v73 : BitVec 32 := Scalar.addi v71 v72
  let c0_i32_505 : BitVec 32 := 0#32
  ![v73.toNat, 0]
def k0_dev25 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_502 : BitVec 32 := 1#32
  let v673 : BitVec 32 := Scalar.muli v42 c1_i32_502
  let v674 : BitVec 32 := Scalar.addi c0_i32_503 v673
  v674.toNat
def k0_off53 (d0 : Dev nD) : Fin 2 → Nat :=
  let c512_i32_40 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c64_i32_39 : BitVec 32 := 64#32
  let v76 : BitVec 32 := Scalar.muli v37 c64_i32_39
  let v77 : BitVec 32 := Scalar.addi c512_i32_40 v76
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c32_i32_41 : BitVec 32 := 32#32
  let v78 : BitVec 32 := Scalar.muli v20 c32_i32_41
  let v79 : BitVec 32 := Scalar.addi v77 v78
  let c0_i32_526 : BitVec 32 := 0#32
  ![v79.toNat, 0]
def k0_dev26 (d0 : Dev nD) : Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_523 : BitVec 32 := 1#32
  let v698 : BitVec 32 := Scalar.muli v40 c1_i32_523
  let v699 : BitVec 32 := Scalar.addi c0_i32_524 v698
  v699.toNat
def k0_dev27 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_544 : BitVec 32 := 1#32
  let v723 : BitVec 32 := Scalar.muli v41 c1_i32_544
  let v724 : BitVec 32 := Scalar.addi c0_i32_545 v723
  v724.toNat
def k0_off54 (d0 : Dev nD) : Fin 2 → Nat :=
  let c288_i32_48 : BitVec 32 := 288#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c32_i32_47 : BitVec 32 := 32#32
  let v88 : BitVec 32 := Scalar.muli v39 c32_i32_47
  let v89 : BitVec 32 := Scalar.addi c288_i32_48 v88
  let c16_i32 : BitVec 32 := 16#32
  let v90 : BitVec 32 := Scalar.muli v37 c16_i32
  let v91 : BitVec 32 := Scalar.addi v89 v90
  let c0_i32_569 : BitVec 32 := 0#32
  ![v91.toNat, 0]
def k0_dev28 (d0 : Dev nD) : Nat :=
  let c0_i32_567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_566 : BitVec 32 := 1#32
  let v748 : BitVec 32 := Scalar.muli v42 c1_i32_566
  let v749 : BitVec 32 := Scalar.addi c0_i32_567 v748
  v749.toNat
def k0_off55 (d0 : Dev nD) : Fin 2 → Nat :=
  let c640_i32_51 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c32_i32_50 : BitVec 32 := 32#32
  let v94 : BitVec 32 := Scalar.muli v37 c32_i32_50
  let v95 : BitVec 32 := Scalar.addi c640_i32_51 v94
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c16_i32_52 : BitVec 32 := 16#32
  let v96 : BitVec 32 := Scalar.muli v20 c16_i32_52
  let v97 : BitVec 32 := Scalar.addi v95 v96
  let c0_i32_590 : BitVec 32 := 0#32
  ![v97.toNat, 0]
def k0_dev29 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_587 : BitVec 32 := 1#32
  let v773 : BitVec 32 := Scalar.muli v40 c1_i32_587
  let v774 : BitVec 32 := Scalar.addi c0_i32_588 v773
  v774.toNat
def k0_off56 (d0 : Dev nD) : Fin 2 → Nat :=
  let c960_i32_55 : BitVec 32 := 960#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c32_i32_54 : BitVec 32 := 32#32
  let v100 : BitVec 32 := Scalar.muli v20 c32_i32_54
  let v101 : BitVec 32 := Scalar.addi c960_i32_55 v100
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c16_i32_56 : BitVec 32 := 16#32
  let v102 : BitVec 32 := Scalar.muli v39 c16_i32_56
  let v103 : BitVec 32 := Scalar.addi v101 v102
  let c0_i32_611 : BitVec 32 := 0#32
  ![v103.toNat, 0]
def k0_dev30 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_608 : BitVec 32 := 1#32
  let v798 : BitVec 32 := Scalar.muli v41 c1_i32_608
  let v799 : BitVec 32 := Scalar.addi c0_i32_609 v798
  v799.toNat
def k0_dev31 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_630 : BitVec 32 := 1#32
  let v823 : BitVec 32 := Scalar.muli v41 c1_i32_630
  let v824 : BitVec 32 := Scalar.addi c0_i32_631 v823
  v824.toNat
def k0_dev32 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_652 : BitVec 32 := 1#32
  let v848 : BitVec 32 := Scalar.muli v42 c1_i32_652
  let v849 : BitVec 32 := Scalar.addi c0_i32_653 v848
  v849.toNat
def k0_dev33 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_673 : BitVec 32 := 1#32
  let v873 : BitVec 32 := Scalar.muli v40 c1_i32_673
  let v874 : BitVec 32 := Scalar.addi c0_i32_674 v873
  v874.toNat
def k0_dev34 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_694 : BitVec 32 := 1#32
  let v898 : BitVec 32 := Scalar.muli v41 c1_i32_694
  let v899 : BitVec 32 := Scalar.addi c0_i32_695 v898
  v899.toNat
def k0_dev35 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_715 : BitVec 32 := 1#32
  let v923 : BitVec 32 := Scalar.muli v42 c1_i32_715
  let v924 : BitVec 32 := Scalar.addi c0_i32_716 v923
  v924.toNat
def k0_dev36 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_736 : BitVec 32 := 1#32
  let v948 : BitVec 32 := Scalar.muli v40 c1_i32_736
  let v949 : BitVec 32 := Scalar.addi c0_i32_737 v948
  v949.toNat
def k0_dev37 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_757 : BitVec 32 := 1#32
  let v973 : BitVec 32 := Scalar.muli v41 c1_i32_757
  let v974 : BitVec 32 := Scalar.addi c0_i32_758 v973
  v974.toNat
def k0_dev38 (d0 : Dev nD) : Nat :=
  let c0_i32_779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_778 : BitVec 32 := 1#32
  let v998 : BitVec 32 := Scalar.muli v42 c1_i32_778
  let v999 : BitVec 32 := Scalar.addi c0_i32_779 v998
  v999.toNat
def k0_dev39 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_799 : BitVec 32 := 1#32
  let v1023 : BitVec 32 := Scalar.muli v40 c1_i32_799
  let v1024 : BitVec 32 := Scalar.addi c0_i32_800 v1023
  v1024.toNat
def k0_off57 (d0 : Dev nD) : Fin 2 → Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c80_i32 : BitVec 32 := 80#32
  let v50 : BitVec 32 := Scalar.muli v39 c80_i32
  let v51 : BitVec 32 := Scalar.addi c0_i32_25 v50
  let c0_i32_818 : BitVec 32 := 0#32
  ![v51.toNat, 0]
def k0_dev40 (d0 : Dev nD) : Nat :=
  let c0_i32_817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_816 : BitVec 32 := 1#32
  let v1041 : BitVec 32 := Scalar.muli v40 c1_i32_816
  let v1042 : BitVec 32 := Scalar.addi c0_i32_817 v1041
  v1042.toNat
def k0_off58 (d0 : Dev nD) : Fin 2 → Nat :=
  let c352_i32 : BitVec 32 := 352#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c80_i32_28 : BitVec 32 := 80#32
  let v56 : BitVec 32 := Scalar.muli v37 c80_i32_28
  let v57 : BitVec 32 := Scalar.addi c352_i32 v56
  let c0_i32_834 : BitVec 32 := 0#32
  ![v57.toNat, 0]
def k0_dev41 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_832 : BitVec 32 := 1#32
  let v1059 : BitVec 32 := Scalar.muli v41 c1_i32_832
  let v1060 : BitVec 32 := Scalar.addi c0_i32_833 v1059
  v1060.toNat
def k0_off59 (d0 : Dev nD) (c704_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c64_i32 : BitVec 32 := 64#32
  let v62 : BitVec 32 := Scalar.muli v20 c64_i32
  let v63 : BitVec 32 := Scalar.addi c704_i32 v62
  let c0_i32_850 : BitVec 32 := 0#32
  ![v63.toNat, 0]
def k0_dev42 (d0 : Dev nD) : Nat :=
  let c0_i32_849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_848 : BitVec 32 := 1#32
  let v1077 : BitVec 32 := Scalar.muli v42 c1_i32_848
  let v1078 : BitVec 32 := Scalar.addi c0_i32_849 v1077
  v1078.toNat
def k0_off60 (d0 : Dev nD) : Fin 2 → Nat :=
  let c160_i32 : BitVec 32 := 160#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c64_i32_34 : BitVec 32 := 64#32
  let v68 : BitVec 32 := Scalar.muli v39 c64_i32_34
  let v69 : BitVec 32 := Scalar.addi c160_i32 v68
  let c0_i32_866 : BitVec 32 := 0#32
  ![v69.toNat, 0]
def k0_dev43 (d0 : Dev nD) : Nat :=
  let c0_i32_865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_864 : BitVec 32 := 1#32
  let v1095 : BitVec 32 := Scalar.muli v40 c1_i32_864
  let v1096 : BitVec 32 := Scalar.addi c0_i32_865 v1095
  v1096.toNat
def k0_off61 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c64_i32_38 : BitVec 32 := 64#32
  let v74 : BitVec 32 := Scalar.muli v37 c64_i32_38
  let v75 : BitVec 32 := Scalar.addi c512_i32 v74
  let c0_i32_882 : BitVec 32 := 0#32
  ![v75.toNat, 0]
def k0_dev44 (d0 : Dev nD) : Nat :=
  let c0_i32_881 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_880 : BitVec 32 := 1#32
  let v1113 : BitVec 32 := Scalar.muli v41 c1_i32_880
  let v1114 : BitVec 32 := Scalar.addi c0_i32_881 v1113
  v1114.toNat
def k0_dev45 (d0 : Dev nD) : Nat :=
  let c0_i32_897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_896 : BitVec 32 := 1#32
  let v1131 : BitVec 32 := Scalar.muli v42 c1_i32_896
  let v1132 : BitVec 32 := Scalar.addi c0_i32_897 v1131
  v1132.toNat
def k0_off62 (d0 : Dev nD) : Fin 2 → Nat :=
  let c288_i32 : BitVec 32 := 288#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let v38 : BitVec 32 := Scalar.remsi v3 c2_i32_12
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v39 : BitVec 32 := Scalar.xori v38 v37
  let c32_i32_46 : BitVec 32 := 32#32
  let v86 : BitVec 32 := Scalar.muli v39 c32_i32_46
  let v87 : BitVec 32 := Scalar.addi c288_i32 v86
  let c0_i32_914 : BitVec 32 := 0#32
  ![v87.toNat, 0]
def k0_dev46 (d0 : Dev nD) : Nat :=
  let c0_i32_913 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v40 : BitVec 32 := Scalar.xori v2 c1_i32_13
  let c1_i32_912 : BitVec 32 := 1#32
  let v1149 : BitVec 32 := Scalar.muli v40 c1_i32_912
  let v1150 : BitVec 32 := Scalar.addi c0_i32_913 v1149
  v1150.toNat
def k0_off63 (d0 : Dev nD) : Fin 2 → Nat :=
  let c640_i32 : BitVec 32 := 640#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let c32_i32_49 : BitVec 32 := 32#32
  let v92 : BitVec 32 := Scalar.muli v37 c32_i32_49
  let v93 : BitVec 32 := Scalar.addi c640_i32 v92
  let c0_i32_930 : BitVec 32 := 0#32
  ![v93.toNat, 0]
def k0_dev47 (d0 : Dev nD) : Nat :=
  let c0_i32_929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v41 : BitVec 32 := Scalar.xori v2 c3_i32
  let c1_i32_928 : BitVec 32 := 1#32
  let v1167 : BitVec 32 := Scalar.muli v41 c1_i32_928
  let v1168 : BitVec 32 := Scalar.addi c0_i32_929 v1167
  v1168.toNat
def k0_off64 (d0 : Dev nD) : Fin 2 → Nat :=
  let c960_i32 : BitVec 32 := 960#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c32_i32_53 : BitVec 32 := 32#32
  let v98 : BitVec 32 := Scalar.muli v20 c32_i32_53
  let v99 : BitVec 32 := Scalar.addi c960_i32 v98
  let c0_i32_946 : BitVec 32 := 0#32
  ![v99.toNat, 0]
def k0_dev48 (d0 : Dev nD) : Nat :=
  let c0_i32_945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_14 : BitVec 32 := 4#32
  let v42 : BitVec 32 := Scalar.xori v2 c4_i32_14
  let c1_i32_944 : BitVec 32 := 1#32
  let v1185 : BitVec 32 := Scalar.muli v42 c1_i32_944
  let v1186 : BitVec 32 := Scalar.addi c0_i32_945 v1185
  v1186.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8x1024x512, .f32⟩
  | .hbm, ⟨2, _⟩ => ⟨S_, .f32⟩
  | .hbm, ⟨3, _⟩ => ⟨S1024x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Tables.lean ====
/- The kernel's body as one text over its nine chains. Every chain runs the same operations on its
   own rows, so the rows each operation touches are kept in a table, a chain at a time. -/
module

public import proofs.«01_k».proof.Proof.Gen.KernelIdeal.Skeleton
public import proofs.«01_k».proof.Proof.Gen.KernelIdeal.Launch

@[expose] public section

noncomputable section

namespace Cert.KernelIdeal.Gen

open Idealize.ShloMosaic Idealize.SL.Sem

variable {F : FTy → Type} [FloatOps F]

/-! ## The chains and their rows -/

/-- The nine chains. -/
abbrev Ch := Fin 9
/-- The first row of a chain's band. -/
def bb : Ch → ℕ
  | 0 => 0 | 1 => 352 | 2 => 704 | 3 => 160 | 4 => 512 | 5 => 832 | 6 => 288 | 7 => 640 | 8 => 960
/-- Half the rows of a chain's band. -/
def hh : Ch → ℕ
  | 0 => 80 | 1 => 80 | 2 => 64 | 3 => 64 | 4 => 64 | 5 => 64 | 6 => 32 | 7 => 32 | 8 => 32
/-- A quarter of the rows of a chain's band. -/
def qq : Ch → ℕ
  | 0 => 40 | 1 => 40 | 2 => 32 | 3 => 32 | 4 => 32 | 5 => 32 | 6 => 16 | 7 => 16 | 8 => 16

/-- The shape of `n` rows. -/
abbrev SR (n : ℕ) : Shape := ⟨2, ![n, 512]⟩

/-- A choice, on each device, of `n` consecutive rows of the array: where they start, within it. -/
structure Rows (n : ℕ) where
  /-- The start of the rows. -/
  off : Dev nD → Fin 2 → ℕ
  /-- They lie in the array. -/
  inb : ∀ d a, off d a + (SR n).size a ≤ S1024x512.size a

/-- The rows the operations of a chain touch, as the kernel's text computes them: the rows sent
    first (`r1`), the rows added for the second message and where they landed (`sA`, `rA`), the
    rows sent second (`r2`), the rows kept (`sB`, landed at `rB`), the rows sent third and fourth
    (`r3`), the rows sent last (`r5`); and the device each message goes to. -/
structure ChainTab (h q : ℕ) where
  /-- The rows of the first message. -/
  r1 : Rows h
  /-- The rows added before the second message. -/
  sA : Rows q
  /-- Where the first message's rows for them landed. -/
  rA : Rows q
  /-- The rows of the second message. -/
  r2 : Rows q
  /-- The rows kept. -/
  sB : Rows q
  /-- Where the first message's rows for them landed. -/
  rB : Rows q
  /-- The rows of the third and the fourth message. -/
  r3 : Rows q
  /-- The rows of the fifth message. -/
  r5 : Rows h
  /-- The device each message goes to. -/
  dev : Fin 5 → Dev nD → Dev nD

/-- The table of the nine chains. -/
def tab : (i : Ch) → ChainTab (hh i) (qq i)
  | 0 => ⟨⟨k0_off1, k0_off1_inb⟩, ⟨k0_off9, k0_off9_inb⟩, ⟨k0_off10, k0_off10_inb⟩, ⟨k0_off11, k0_off11_inb⟩,
      ⟨k0_off12, k0_off12_inb⟩, ⟨k0_off13, k0_off13_inb⟩, ⟨k0_off49, k0_off49_inb⟩, ⟨k0_off57, k0_off57_inb⟩,
      ![fun d => ⟨k0_dev4 d, k0_dev4_lt d⟩, fun d => ⟨k0_dev13 d, k0_dev13_lt d⟩, fun d => ⟨k0_dev22 d, k0_dev22_lt d⟩, fun d => ⟨k0_dev31 d, k0_dev31_lt d⟩, fun d => ⟨k0_dev40 d, k0_dev40_lt d⟩]⟩
  | 1 => ⟨⟨k0_off2, k0_off2_inb⟩, ⟨k0_off14, k0_off14_inb⟩, ⟨k0_off15, k0_off15_inb⟩, ⟨k0_off16, k0_off16_inb⟩,
      ⟨k0_off17, k0_off17_inb⟩, ⟨k0_off18, k0_off18_inb⟩, ⟨k0_off50, k0_off50_inb⟩, ⟨k0_off58, k0_off58_inb⟩,
      ![fun d => ⟨k0_dev5 d, k0_dev5_lt d⟩, fun d => ⟨k0_dev14 d, k0_dev14_lt d⟩, fun d => ⟨k0_dev23 d, k0_dev23_lt d⟩, fun d => ⟨k0_dev32 d, k0_dev32_lt d⟩, fun d => ⟨k0_dev41 d, k0_dev41_lt d⟩]⟩
  | 2 => ⟨⟨(k0_off3 · 704#32), (k0_off3_inb · 0)⟩, ⟨(k0_off19 · 704#32), (k0_off19_inb · 0)⟩, ⟨(k0_off20 · 704#32), (k0_off20_inb · 0)⟩, ⟨(k0_off21 · 704#32), (k0_off21_inb · 0)⟩,
      ⟨(k0_off22 · 704#32), (k0_off22_inb · 0)⟩, ⟨(k0_off23 · 704#32), (k0_off23_inb · 0)⟩, ⟨(k0_off51 · 704#32), (k0_off51_inb · 0)⟩, ⟨(k0_off59 · 704#32), (k0_off59_inb · 0)⟩,
      ![fun d => ⟨k0_dev6 d, k0_dev6_lt d⟩, fun d => ⟨k0_dev15 d, k0_dev15_lt d⟩, fun d => ⟨k0_dev24 d, k0_dev24_lt d⟩, fun d => ⟨k0_dev33 d, k0_dev33_lt d⟩, fun d => ⟨k0_dev42 d, k0_dev42_lt d⟩]⟩
  | 3 => ⟨⟨k0_off4, k0_off4_inb⟩, ⟨k0_off24, k0_off24_inb⟩, ⟨k0_off25, k0_off25_inb⟩, ⟨k0_off26, k0_off26_inb⟩,
      ⟨k0_off27, k0_off27_inb⟩, ⟨k0_off28, k0_off28_inb⟩, ⟨k0_off52, k0_off52_inb⟩, ⟨k0_off60, k0_off60_inb⟩,
      ![fun d => ⟨k0_dev7 d, k0_dev7_lt d⟩, fun d => ⟨k0_dev16 d, k0_dev16_lt d⟩, fun d => ⟨k0_dev25 d, k0_dev25_lt d⟩, fun d => ⟨k0_dev34 d, k0_dev34_lt d⟩, fun d => ⟨k0_dev43 d, k0_dev43_lt d⟩]⟩
  | 4 => ⟨⟨k0_off5, k0_off5_inb⟩, ⟨k0_off29, k0_off29_inb⟩, ⟨k0_off30, k0_off30_inb⟩, ⟨k0_off31, k0_off31_inb⟩,
      ⟨k0_off32, k0_off32_inb⟩, ⟨k0_off33, k0_off33_inb⟩, ⟨k0_off53, k0_off53_inb⟩, ⟨k0_off61, k0_off61_inb⟩,
      ![fun d => ⟨k0_dev8 d, k0_dev8_lt d⟩, fun d => ⟨k0_dev17 d, k0_dev17_lt d⟩, fun d => ⟨k0_dev26 d, k0_dev26_lt d⟩, fun d => ⟨k0_dev35 d, k0_dev35_lt d⟩, fun d => ⟨k0_dev44 d, k0_dev44_lt d⟩]⟩
  | 5 => ⟨⟨(k0_off3 · 832#32), (k0_off3_inb · 1)⟩, ⟨(k0_off19 · 832#32), (k0_off19_inb · 1)⟩, ⟨(k0_off20 · 832#32), (k0_off20_inb · 1)⟩, ⟨(k0_off21 · 832#32), (k0_off21_inb · 1)⟩,
      ⟨(k0_off22 · 832#32), (k0_off22_inb · 1)⟩, ⟨(k0_off23 · 832#32), (k0_off23_inb · 1)⟩, ⟨(k0_off51 · 832#32), (k0_off51_inb · 1)⟩, ⟨(k0_off59 · 832#32), (k0_off59_inb · 1)⟩,
      ![fun d => ⟨k0_dev9 d, k0_dev9_lt d⟩, fun d => ⟨k0_dev18 d, k0_dev18_lt d⟩, fun d => ⟨k0_dev27 d, k0_dev27_lt d⟩, fun d => ⟨k0_dev36 d, k0_dev36_lt d⟩, fun d => ⟨k0_dev45 d, k0_dev45_lt d⟩]⟩
  | 6 => ⟨⟨k0_off6, k0_off6_inb⟩, ⟨k0_off34, k0_off34_inb⟩, ⟨k0_off35, k0_off35_inb⟩, ⟨k0_off36, k0_off36_inb⟩,
      ⟨k0_off37, k0_off37_inb⟩, ⟨k0_off38, k0_off38_inb⟩, ⟨k0_off54, k0_off54_inb⟩, ⟨k0_off62, k0_off62_inb⟩,
      ![fun d => ⟨k0_dev10 d, k0_dev10_lt d⟩, fun d => ⟨k0_dev19 d, k0_dev19_lt d⟩, fun d => ⟨k0_dev28 d, k0_dev28_lt d⟩, fun d => ⟨k0_dev37 d, k0_dev37_lt d⟩, fun d => ⟨k0_dev46 d, k0_dev46_lt d⟩]⟩
  | 7 => ⟨⟨k0_off7, k0_off7_inb⟩, ⟨k0_off39, k0_off39_inb⟩, ⟨k0_off40, k0_off40_inb⟩, ⟨k0_off41, k0_off41_inb⟩,
      ⟨k0_off42, k0_off42_inb⟩, ⟨k0_off43, k0_off43_inb⟩, ⟨k0_off55, k0_off55_inb⟩, ⟨k0_off63, k0_off63_inb⟩,
      ![fun d => ⟨k0_dev11 d, k0_dev11_lt d⟩, fun d => ⟨k0_dev20 d, k0_dev20_lt d⟩, fun d => ⟨k0_dev29 d, k0_dev29_lt d⟩, fun d => ⟨k0_dev38 d, k0_dev38_lt d⟩, fun d => ⟨k0_dev47 d, k0_dev47_lt d⟩]⟩
  | 8 => ⟨⟨k0_off8, k0_off8_inb⟩, ⟨k0_off44, k0_off44_inb⟩, ⟨k0_off45, k0_off45_inb⟩, ⟨k0_off46, k0_off46_inb⟩,
      ⟨k0_off47, k0_off47_inb⟩, ⟨k0_off48, k0_off48_inb⟩, ⟨k0_off56, k0_off56_inb⟩, ⟨k0_off64, k0_off64_inb⟩,
      ![fun d => ⟨k0_dev12 d, k0_dev12_lt d⟩, fun d => ⟨k0_dev21 d, k0_dev21_lt d⟩, fun d => ⟨k0_dev30 d, k0_dev30_lt d⟩, fun d => ⟨k0_dev39 d, k0_dev39_lt d⟩, fun d => ⟨k0_dev48 d, k0_dev48_lt d⟩]⟩

/-- The rows from `n` on, the same on every device. -/
def Rows.const (b n : ℕ) (h : ∀ a, (![b, 0] : Fin 2 → ℕ) a + (SR n).size a ≤ S1024x512.size a) : Rows n :=
  ⟨fun _ => ![b, 0], fun _ => h⟩

theorem inb_land1 : ∀ (i : Ch) a, (![bb i, 0] : Fin 2 → ℕ) a + (SR (hh i)).size a ≤ S1024x512.size a := by decide +kernel
theorem inb_land2 : ∀ (i : Ch) a, (![bb i + hh i, 0] : Fin 2 → ℕ) a + (SR (qq i)).size a ≤ S1024x512.size a := by decide +kernel
theorem inb_land3 : ∀ (i : Ch) a, (![bb i + hh i + qq i, 0] : Fin 2 → ℕ) a + (SR (qq i)).size a ≤ S1024x512.size a := by decide +kernel

/-- Where the first message of a chain lands. -/
def land1 (i : Ch) : Rows (hh i) := .const (bb i) (hh i) (inb_land1 i)
/-- Where the second lands. -/
def land2 (i : Ch) : Rows (qq i) := .const (bb i + hh i) (qq i) (inb_land2 i)
/-- Where the third lands. -/
def land3 (i : Ch) : Rows (qq i) := .const (bb i + hh i + qq i) (qq i) (inb_land3 i)

/-! ## The operations of a chain -/

/-- The rows `R` of an array on device `d`, as the unit rectangle the operations name. -/
abbrev rect {n : ℕ} (R : Rows n) (d : Dev nD) : Rect S1024x512 :=
  Rect.unit (s := S1024x512) (R.off d) (SR n).size (R.inb d)

/-- The rows `R` of an array on device `d`, as the view the copies name. -/
abbrev rows (arg : Memref sig .tc .vmem S1024x512 .f32) {n : ℕ} (R : Rows n) (d : Dev nD) : Memref sig .tc .vmem (SR n) .f32 :=
  arg.slice (rect R d) (fun _ => rfl)

theorem inb_sem : ∀ (j : Fin 45) a, (![j.val] : Fin 1 → ℕ) a + S1.size a ≤ S45.size a := by decide +kernel

/-- The index of the semaphore of a chain's message. -/
abbrev six (i : Ch) (k : Fin 5) : Fin 45 := ⟨5 * i.val + k.val, by omega⟩

/-- One semaphore of an array of 45. -/
abbrev semAt (arg : DmaSems sig S45) (j : Fin 45) : DmaSem sig :=
  ((arg.slice (Rect.unit (s := S45) ![j.val] S1.size (inb_sem j))).squeeze S_ squeezes_S1_S_).sem

section Ops
variable (x o r : Memref sig .tc .vmem S1024x512 .f32) (sS sR : DmaSems sig S45)

/-- Start a copy of rows `src` of one array into rows `dst` of another on device `p`. -/
abbrev start (j : Fin 45) {n : ℕ} (src dst : Memref sig .tc .vmem (SR n) .f32) (p : Dev nD) : Prog (TpuEff nD τ sig (Elt F) Λ₀ .tc) PUnit :=
  Prog.lift (.enqueueDma src (.remote (Dev.tc p) dst (.dma (semAt sS j))) (.dma (semAt sR j)) (View.wordExact_bits rfl) (View.wordExact_bits rfl) ⟨⟨rfl, Or.inl rfl⟩, trivial⟩)

/-- Wait for a copy to have left, then for the peer's to have landed. -/
abbrev await (j : Fin 45) {n : ℕ} (src dst : Memref sig .tc .vmem (SR n) .f32) : Prog (TpuEff nD τ sig (Elt F) Λ₀ .tc) PUnit := do
  Prog.lift (.waitDma2 (semAt sS j) dst src (View.wordExact_bits rfl) (View.wordExact_bits rfl))
  Prog.lift (.waitDma2 (semAt sR j) src dst (View.wordExact_bits rfl) (View.wordExact_bits rfl))

/-- The sum of two loaded blocks, as the kernel computes it. -/
abbrev sum {n : ℕ} (a b : Vec F (SR n) .f32) : FVec F (SR n) .f32 :=
  addf (shapeCast (SR n) a rfl) b

/-- Add rows `R` of `a` and rows `L` of `r` into rows `R` of `o`. -/
abbrev add (a : Memref sig .tc .vmem S1024x512 .f32) {n : ℕ} (hn : 0 < (SR n).numel) (R L : Rows n) (d : Dev nD) : Prog (TpuEff nD τ sig (Elt F) Λ₀ .tc) PUnit := do
  let v : Vec F (SR n) .f32 ← Prog.lift (.load a (rect R d).toLoadRect (View.loadsAt_vmem hn))
  let w : Vec F (SR n) .f32 ← Prog.lift (.load r (rect L d).toLoadRect (View.loadsAt_vmem hn))
  let _u : Vec F (SR n) .f32 ← Prog.lift (.load o (rect R d).toLoadRect (View.loadsAt_vmem hn))
  Prog.lift (.store o (rect R d) (sum v w) Finset.univ (View.stores_vmem_bits_univ hn rfl) (.inl rfl))

/-! ## The body, phase by phase -/

theorem rows_h : ∀ i : Ch, 0 < (SR (hh i)).numel := by decide +kernel
theorem rows_q : ∀ i : Ch, 0 < (SR (qq i)).numel := by decide +kernel

/-- Chain `i` starts its first message. -/
def step0 (d : Dev nD) (i : Ch) : Prog (TpuEff nD τ sig (Elt F) Λ₀ .tc) PUnit :=
  start sS sR (six i 0) (rows x (tab i).r1 d) (rows r (land1 i) d) ((tab i).dev 0 d)
/-- It waits for it, adds the rows to send, sends them, adds the rows it keeps. -/
def step1 (d : Dev nD) (i : Ch) : Prog (TpuEff nD τ sig (Elt F) Λ₀ .tc) PUnit := do
  await sS sR (six i 0) (rows x (tab i).r1 d) (rows r (land1 i) d)
  add o r x (rows_q i) (tab i).sA (tab i).rA d
  start sS sR (six i 1) (rows o (tab i).r2 d) (rows r (land2 i) d) ((tab i).dev 1 d)
  add o r x (rows_q i) (tab i).sB (tab i).rB d
/-- It waits for the second message, adds what landed to the rows it keeps, sends these. -/
def step2 (d : Dev nD) (i : Ch) : Prog (TpuEff nD τ sig (Elt F) Λ₀ .tc) PUnit := do
  await sS sR (six i 1) (rows o (tab i).r2 d) (rows r (land2 i) d)
  add o r o (rows_q i) (tab i).sB (land2 i) d
  start sS sR (six i 2) (rows o (tab i).r3 d) (rows r (land3 i) d) ((tab i).dev 2 d)
/-- The same with the third message; what is sent goes straight into the peer's result. -/
def step3 (d : Dev nD) (i : Ch) : Prog (TpuEff nD τ sig (Elt F) Λ₀ .tc) PUnit := do
  await sS sR (six i 2) (rows o (tab i).r3 d) (rows r (land3 i) d)
  add o r o (rows_q i) (tab i).sB (land3 i) d
  start sS sR (six i 3) (rows o (tab i).r3 d) (rows o (tab i).r3 d) ((tab i).dev 3 d)
/-- It waits for the fourth message and sends the half it now holds. -/
def step4 (d : Dev nD) (i : Ch) : Prog (TpuEff nD τ sig (Elt F) Λ₀ .tc) PUnit := do
  await sS sR (six i 3) (rows o (tab i).r3 d) (rows o (tab i).r3 d)
  start sS sR (six i 4) (rows o (tab i).r5 d) (rows o (tab i).r5 d) ((tab i).dev 4 d)
/-- It waits for the fifth. -/
def step5 (d : Dev nD) (i : Ch) : Prog (TpuEff nD τ sig (Elt F) Λ₀ .tc) PUnit :=
  await sS sR (six i 4) (rows o (tab i).r5 d) (rows o (tab i).r5 d)

/-- A step of every chain, in order. -/
def each (f : Ch → Prog (TpuEff nD τ sig (Elt F) Λ₀ .tc) PUnit) : Prog (TpuEff nD τ sig (Elt F) Λ₀ .tc) PUnit := do
  f 0; f 1; f 2; f 3; f 4; f 5; f 6; f 7; f 8

/-- The barrier semaphore. -/
abbrev barS : Sem sig := (SemArray.scalar (sig.barrier 0 rfl) : Sems sig S_).sem

/-- Meeting the three neighbours at the barrier. -/
def meet (d : Dev nD) : Prog (TpuEff nD τ sig (Elt F) Λ₀ .tc) PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32

/-- The whole body. -/
def text : Prog (TpuEff nD τ sig (Elt F) Λ₀ .tc) PUnit := do
  let d ← Prog.lift .deviceId
  meet d
  each (step0 x r sS sR d)
  each (step1 x o r sS sR d)
  each (step2 o r sS sR d)
  each (step3 o r sS sR d)
  each (step4 o sS sR d)
  each (step5 o sS sR d)

end Ops

end Cert.KernelIdeal.Gen
-- ==== Proof.Own.lean ====
/- Rows of an array as the proof holds them, and the operations on them.

`own a c S V` is the right to the elements `S` of device `c`'s array `a`, which hold what `V` says. -/
module

public import proofs.«01_k».proof.Proof.Tables
public import Idealize.ShloMosaic.Lib.Pipeline.Launch
public import Idealize.ShloMosaic.Lib.Pipeline.Kit
public import Idealize.ShloMosaic.Lib.Tactic

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

/-- An array of rows. -/
abbrev Arr : Type := Memref sig .tc .vmem S1024x512 .f32

/-- What a whole array may hold. -/
abbrev Val (F : FTy → Type) : Type := S1024x512.Idx → Elt F .f32

/-- The elements of rows `lo` to `lo + n`. -/
def band (lo n : ℕ) : Finset S1024x512.Idx := Finset.univ.filter fun i => lo ≤ (i 0).val ∧ (i 0).val < lo + n

theorem mem_band {lo n : ℕ} {i : S1024x512.Idx} : i ∈ band lo n ↔ lo ≤ (i 0).val ∧ (i 0).val < lo + n := by
  unfold band; rw [Finset.mem_filter]; exact and_iff_right (Finset.mem_univ i)

/-- Consecutive rows are apart, and together the longer run. -/
theorem band_add (lo n m : ℕ) : band lo (n + m) = band lo n ∪ band (lo + n) m := by
  ext i; rw [Finset.mem_union, mem_band, mem_band, mem_band]; omega

theorem band_disjoint {lo n lo' n' : ℕ} (h : lo + n ≤ lo' ∨ lo' + n' ≤ lo) : Disjoint (band lo n) (band lo' n') :=
  Finset.disjoint_left.mpr fun i hi hj => by rw [mem_band] at hi hj; omega

/-- The element as many rows after row `src` as `i` is after row `lo`. -/
def mv (lo src : ℕ) (i : S1024x512.Idx) : S1024x512.Idx
  | ⟨0, _⟩ => ⟨((i 0).val - lo + src) % 1024, Nat.mod_lt _ (by decide)⟩
  | ⟨1, _⟩ => i 1

section Rects
variable {n : ℕ} {R : Rows n} {d : Dev nD} {lo : ℕ}

theorem rect_set (h : R.off d = ![lo, 0]) : (rect R d).set = band lo n := by
  ext i
  rw [Rect.mem_set_unit, mem_band, h]
  constructor
  · intro hi; exact hi 0
  · intro hi a
    match a with
    | ⟨0, _⟩ => exact hi
    | ⟨1, _⟩ => exact ⟨Nat.zero_le _, by have := (i 1).isLt; show (i 1).val < 0 + 512; rw [Nat.zero_add]; exact this⟩

theorem emb_mem (h : R.off d = ![lo, 0]) (j : (SR n).Idx) : (rect R d).emb j ∈ band lo n := by
  rw [← rect_set h, ← Rect.map_emb_univ]; exact Finset.mem_map_of_mem _ (Finset.mem_univ j)

theorem emb_surj (h : R.off d = ![lo, 0]) {i : S1024x512.Idx} (hi : i ∈ band lo n) : ∃ j, (rect R d).emb j = i := by
  rw [← rect_set h, ← Rect.map_emb_univ] at hi
  obtain ⟨j, -, hj⟩ := Finset.mem_map.mp hi
  exact ⟨j, hj⟩

theorem emb_row (h : R.off d = ![lo, 0]) (j : (SR n).Idx) : ((rect R d).emb j 0).val = lo + (j 0).val := by
  rw [Rect.emb_apply]; show R.off d 0 + 1 * _ = _; rw [h, Nat.one_mul]; rfl

theorem emb_col (h : R.off d = ![lo, 0]) (j : (SR n).Idx) : ((rect R d).emb j 1).val = (j 1).val := by
  rw [Rect.emb_apply]; show R.off d 1 + 1 * _ = _; rw [h, Nat.one_mul]; exact Nat.zero_add _

/-- The same place of two runs of rows: one is the other moved. -/
theorem mv_emb {R' : Rows n} {d' : Dev nD} {lo' : ℕ} (h : R.off d = ![lo, 0]) (h' : R'.off d' = ![lo', 0]) (j : (SR n).Idx) :
    mv lo' lo ((rect R' d').emb j) = (rect R d).emb j := by
  funext a
  match a with
  | ⟨0, _⟩ =>
    refine Fin.ext ?_
    show (((rect R' d').emb j 0).val - lo' + lo) % 1024 = ((rect R d).emb j 0).val
    have := ((rect R d).emb j 0).isLt
    rw [emb_row h] at this ⊢
    rw [emb_row h', Nat.mod_eq_of_lt]
    · omega
    · have h2 : lo + (j 0).val < 1024 := this
      omega
  | ⟨1, _⟩ => exact Fin.ext ((emb_col h' j).trans (emb_col h j).symm)

end Rects

/-! ## Holding rows -/

/-- Device `c` holds the elements `S` of its array `a`, and they are what `V` says. -/
def own (a : Arr) (c : Dev nD) (S : Finset S1024x512.Idx) (V : Val F) : sProp 𝕄 :=
  iprop(∃ f : Buf (Elt F) (a.view.loc (c : Thread nD τ)), ⌜∀ i ∈ S, a.view.read (Elt F) f i = V i⌝
    ∗ (a.view.loc (c : Thread nD τ) ↦[a.view.setOn S]{fullShare} f))

/-- The same, whatever they are. -/
def lent (a : Arr) (c : Dev nD) (S : Finset S1024x512.Idx) : sProp 𝕄 := iprop(∃ V : Val F, own a c S V)

instance own_storable (a : Arr) (c : Dev nD) (S) (V : Val F) : BI.Storable (upEmb : UEmb _ 𝕄) (own a c S V) := by unfold own; infer_instance
instance lent_storable (a : Arr) (c : Dev nD) (S) : BI.Storable (upEmb : UEmb _ 𝕄) (lent (F := F) a c S) := by unfold lent; infer_instance

variable {a : Arr} {c : Dev nD} {S T : Finset S1024x512.Idx} {V V' : Val F}

theorem own_lent : own a c S V ⊢ (lent a c S : sProp 𝕄) := by
  unfold lent; iintro H; iexists V; iexact H

theorem own_congr (h : ∀ i ∈ S, V i = V' i) : own a c S V ⊢ (own a c S V' : sProp 𝕄) := by
  unfold own
  iintro ⟨%f, %hf, H⟩
  iexists f
  isplitr
  · ipureintro; exact fun i hi => (hf i hi).trans (h i hi)
  iexact H

theorem own_split (h : Disjoint S T) : own a c (S ∪ T) V ⊢ (iprop(own a c S V ∗ own a c T V) : sProp 𝕄) := by
  unfold own
  iintro ⟨%f, %hf, H⟩
  have hd : Disjoint (a.view.setOn S) (a.view.setOn T) := (Finset.disjoint_map _).mpr h
  rw [show a.view.setOn (S ∪ T) = a.view.setOn S ∪ a.view.setOn T from Finset.map_union _ _]
  ihave H' := (pointsTo_union hd).1 $$ H
  icases H' with ⟨H1, H2⟩
  isplitl [H1]
  · iexists f
    isplitr; · ipureintro; exact fun i hi => hf i (Finset.mem_union_left _ hi)
    iexact H1
  · iexists f
    isplitr; · ipureintro; exact fun i hi => hf i (Finset.mem_union_right _ hi)
    iexact H2

theorem own_join (h : Disjoint S T) : (iprop(own a c S V ∗ own a c T V) : sProp 𝕄) ⊢ own a c (S ∪ T) V := by
  unfold own
  iintro ⟨⟨%f, %hf, H1⟩, ⟨%g, %hg, H2⟩⟩
  have hd : Disjoint (a.view.setOn S) (a.view.setOn T) := (Finset.disjoint_map _).mpr h
  rw [show a.view.setOn (S ∪ T) = a.view.setOn S ∪ a.view.setOn T from Finset.map_union _ _]
  iexists (a.view.setOn T).piecewise g f
  isplitr
  · ipureintro
    intro i hi
    by_cases hT : i ∈ T
    · refine Eq.trans (congrArg (cast (congrArg (Elt F) a.view.elt_eq)) (Finset.piecewise_eq_of_mem (a.view.setOn T) g f ?_)) (hg i hT)
      exact (View.mem_setOn a.view).mpr hT
    · refine Eq.trans (congrArg (cast (congrArg (Elt F) a.view.elt_eq)) (Finset.piecewise_eq_of_notMem (a.view.setOn T) g f ?_)) (hf i ((Finset.mem_union.mp hi).resolve_right hT))
      exact fun h => hT ((View.mem_setOn a.view).mp h)
  · iapply (pointsTo_join hd)
    isplitl [H1]; · iexact H1
    iexact H2

theorem lent_split (h : Disjoint S T) : lent a c (S ∪ T) ⊢ (iprop(lent (F := F) a c S ∗ lent a c T) : sProp 𝕄) := by
  unfold lent
  iintro ⟨%V, H⟩
  ihave H' := (own_split h) $$ H
  icases H' with ⟨H1, H2⟩
  isplitl [H1]
  · iexists V; iexact H1
  · iexists V; iexact H2

theorem lent_join (h : Disjoint S T) : (iprop(lent (F := F) a c S ∗ lent a c T) : sProp 𝕄) ⊢ lent a c (S ∪ T) := by
  classical
  unfold lent
  iintro ⟨⟨%V, H1⟩, ⟨%V', H2⟩⟩
  iexists (T.piecewise V' V)
  iapply (own_join h)
  isplitl [H1]
  · iapply (own_congr (V := V) (fun i hi => (Finset.piecewise_eq_of_notMem _ _ _ (Finset.disjoint_left.mp h hi)).symm)); iexact H1
  · iapply (own_congr (V := V') (fun i hi => (Finset.piecewise_eq_of_mem _ _ _ hi).symm)); iexact H2

/-- Over a family of sets apart from each other. -/
theorem own_family {I : Type} [DecidableEq I] (s : Finset I) (K : I → Finset S1024x512.Idx)
    (h : ∀ i j, i ≠ j → Disjoint (K i) (K j)) :
    (own a c (s.biUnion K) V : sProp 𝕄) ⊢ bigSep s fun i => own a c (K i) V := by
  induction s using Finset.induction_on with
  | empty => rw [bigSep_empty]; iintro -; iempintro
  | insert i s hi ih =>
    rw [Finset.biUnion_insert, bigSep_insert hi]
    refine (own_split ?_).trans (sep_mono .rfl ih)
    exact (Finset.disjoint_biUnion_right _ _ _).mpr fun j hj => h i j fun e => hi (e ▸ hj)

theorem lent_family {I : Type} [DecidableEq I] (s : Finset I) (K : I → Finset S1024x512.Idx)
    (h : ∀ i j, i ≠ j → Disjoint (K i) (K j)) :
    (lent (F := F) a c (s.biUnion K) : sProp 𝕄) ⊢ bigSep s fun i => lent a c (K i) := by
  unfold lent
  iintro ⟨%V, H⟩
  ihave H' := (own_family s K h) $$ H
  iapply (show (bigSep s fun i => own a c (K i) V) ⊢ (bigSep s fun i => lent a c (K i) : sProp 𝕄) from bigSep_mono fun i _ => own_lent) $$ H'

/-- No elements can always be held, given any of the array's. -/
theorem own_family_join {I : Type} [DecidableEq I] (s : Finset I) (K : I → Finset S1024x512.Idx) (i₀ : I)
    (h : ∀ i j, i ≠ j → Disjoint (K i) (K j)) (h₀ : i₀ ∉ s) :
    (iprop(own a c (K i₀) V ∗ bigSep s fun i => own a c (K i) V) : sProp 𝕄) ⊢ own a c ((insert i₀ s).biUnion K) V := by
  induction s using Finset.induction_on with
  | empty =>
    rw [bigSep_empty, show (insert i₀ (∅ : Finset I)).biUnion K = K i₀ by simp]
    exact (BI.sep_and).trans BI.and_elimL
  | insert i s hi ih =>
    rw [bigSep_insert hi, Finset.insert_comm, Finset.biUnion_insert]
    have hne : i ∉ insert i₀ s := fun hm => (Finset.mem_insert.mp hm).elim (fun e => h₀ (e ▸ Finset.mem_insert_self _ _)) hi
    have hd : Disjoint (K i) ((insert i₀ s).biUnion K) :=
      (Finset.disjoint_biUnion_right _ _ _).mpr fun j hj => h i j fun e => hne (e ▸ hj)
    refine BI.Entails.trans (show iprop(own a c (K i₀) V ∗ own a c (K i) V ∗ bigSep s fun i => own a c (K i) V) ⊢ iprop(own a c (K i) V ∗ own a c ((insert i₀ s).biUnion K) V) from ?_) (own_join hd)
    iintro ⟨H0, Hi, Hs⟩
    isplitl [Hi]; · iexact Hi
    iapply (ih fun hm => h₀ (Finset.mem_insert_of_mem hm))
    isplitl [H0]; · iexact H0
    iexact Hs

theorem lent_family_join {I : Type} [DecidableEq I] (s : Finset I) (K : I → Finset S1024x512.Idx) (i₀ : I)
    (h : ∀ i j, i ≠ j → Disjoint (K i) (K j)) (h₀ : i₀ ∉ s) :
    (iprop(lent (F := F) a c (K i₀) ∗ bigSep s fun i => lent a c (K i)) : sProp 𝕄) ⊢ lent a c ((insert i₀ s).biUnion K) := by
  induction s using Finset.induction_on with
  | empty =>
    rw [bigSep_empty, show (insert i₀ (∅ : Finset I)).biUnion K = K i₀ by simp]
    exact (BI.sep_and).trans BI.and_elimL
  | insert i s hi ih =>
    rw [bigSep_insert hi, Finset.insert_comm, Finset.biUnion_insert]
    have hne : i ∉ insert i₀ s := fun hm => (Finset.mem_insert.mp hm).elim (fun e => h₀ (e ▸ Finset.mem_insert_self _ _)) hi
    have hd : Disjoint (K i) ((insert i₀ s).biUnion K) :=
      (Finset.disjoint_biUnion_right _ _ _).mpr fun j hj => h i j fun e => hne (e ▸ hj)
    refine BI.Entails.trans (show iprop(lent a c (K i₀) ∗ lent a c (K i) ∗ bigSep s fun i => lent a c (K i)) ⊢ iprop(lent a c (K i) ∗ lent a c ((insert i₀ s).biUnion K)) from ?_) (lent_join hd)
    iintro ⟨H0, Hi, Hs⟩
    isplitl [Hi]; · iexact Hi
    iapply (ih fun hm => h₀ (Finset.mem_insert_of_mem hm))
    isplitl [H0]; · iexact H0
    iexact Hs

/-! ## Loads, the store -/

/-- The sum of two arrays, element by element. -/
def ad (u v : Val F) : Val F := fun i => FloatOps.addf (F := F) (φ := .f32) (u i) (v i)

section Ops
variable {n : ℕ} {R L : Rows n} {lo lo' : ℕ}

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

theorem own_load {α : Type} {Q : α → sProp 𝕄} (hS : band lo n ⊆ S) (h : R.off c = ![lo, 0]) {hl : a.view.LoadsAt (rect R c).toLoadRect}
    (k : Vec F (SR n) .f32 → Prog (TpuEff nD τ sig (Elt F) Λ₀ .tc) α) :
    own a c S V ⊢ (iprop((own a c S V -∗ wpc c (k fun j => V ((rect R c).emb j)) Q)
      -∗ wpc c (.op (.load a (rect R c).toLoadRect hl) k) Q) : sProp 𝕄) := by
  iintro H Hk
  unfold own
  icases H with ⟨%f, %hf, H⟩
  iapply (wp_load Variants.none (c : Thread nD τ) none Set.univ (m := a) (hl := hl) (k := k) (S := a.view.setOn S)
    (Finset.map_subset_map.mpr ((rect_set h).trans_subset hS))) $$ H
  iintro H
  rw [show a.view.readAt (Elt F) (rect R c).toLoadRect f = fun j => V ((rect R c).emb j) from
    funext fun j => hf _ (hS (emb_mem h j))]
  iapply Hk
  iexists f
  isplitr; · ipureintro; exact hf
  iexact H

theorem own_store {α : Type} {Q : α → sProp 𝕄} (hS : band lo n ⊆ S) (h : R.off c = ![lo, 0]) {w : Vec F (SR n) .f32}
    {hx : (a.access (rect R c)).Stores Finset.univ} {hm} (k : PUnit → Prog (TpuEff nD τ sig (Elt F) Λ₀ .tc) α)
    (hw : ∀ j, w j = V' ((rect R c).emb j)) (hV : ∀ i ∈ S, i ∉ band lo n → V i = V' i) :
    own a c S V ⊢ (iprop((own a c S V' -∗ wpc c (k ⟨⟩) Q)
      -∗ wpc c (.op (.store a (rect R c) w Finset.univ hx hm) k) Q) : sProp 𝕄) := by
  iintro H Hk
  unfold own
  icases H with ⟨%f, %hf, H⟩
  have hs : (a.access (rect R c)).setOn Finset.univ = a.view.setOn (band lo n) := by
    rw [View.setOn_univ]; show (a.view.slice (rect R c)).set = _; rw [View.set_slice, rect_set h]; rfl
  iapply (wp_store Variants.none (c : Thread nD τ) none Set.univ (m := a) (r := rect R c) (hx := hx) (hm := hm) (k := k) (Mk := Finset.univ) (S := a.view.setOn S)
    (hs.trans_subset (Finset.map_subset_map.mpr hS))) $$ H
  iintro H
  iapply Hk
  iexists _
  isplitr
  · ipureintro
    intro i hi
    by_cases hb : i ∈ band lo n
    · obtain ⟨j, rfl⟩ := emb_surj h hb
      rw [View.read_apply]
      refine (congrArg _ (View.write_emb_of_mem (v := a.access (rect R c)) (Val := Elt F) f w (Finset.mem_univ j))).trans ?_
      rw [cast_cast, cast_eq]; exact hw j
    · rw [View.read_apply, View.write_of_not_mem, ← View.read_apply, hf i hi, hV i hi hb]
      rw [hs, View.mem_setOn]; exact hb
  iexact H

end Ops

end Cert.KernelIdeal.Gen
-- ==== Proof.Geom.lean ====
/- The cube of devices, the rows each chain touches, and what they hold. -/
module

public import proofs.«01_k».proof.Proof.Own

@[expose] public section

noncomputable section

namespace Cert.KernelIdeal.Gen

open Idealize.ShloMosaic

/-! ## Devices -/

/-- The coordinate of a device along each of the three directions of the cube. -/
def coord : Fin 3 → Dev nD → ℕ
  | 0, d => (d.val % 2 + d.val % 4 / 2) % 2
  | 1, d => d.val % 4 / 2
  | 2, d => d.val / 4

/-- The neighbour along each direction. -/
def nb : Fin 3 → Dev nD → Dev nD
  | 0, d => ⟨d.val ^^^ 1, by revert d; decide +kernel⟩
  | 1, d => ⟨d.val ^^^ 3, by revert d; decide +kernel⟩
  | 2, d => ⟨d.val ^^^ 4, by revert d; decide +kernel⟩

theorem nb_nb : ∀ a d, nb a (nb a d) = d := by decide +kernel
theorem nb_comm : ∀ a b d, nb a (nb b d) = nb b (nb a d) := by decide +kernel
theorem coord_le : ∀ a d, coord a d ≤ 1 := by decide +kernel
theorem coord_nb : ∀ a d, coord a (nb a d) = 1 - coord a d := by decide +kernel
theorem coord_nb_ne : ∀ a b d, a ≠ b → coord a (nb b d) = coord a d := by decide +kernel

/-- Trading places with the neighbour. -/
def flip (a : Fin 3) : Dev nD ≃ Dev nD := ⟨nb a, nb a, nb_nb a, nb_nb a⟩

/-- The three directions in the order chain `i` takes them. -/
def ax (i : Ch) (j : Fin 3) : Fin 3 := ⟨(i.val + j.val) % 3, Nat.mod_lt _ (by decide)⟩

/-- Which of the three the direction `a` is for chain `i`. -/
def pos (i : Ch) (a : Fin 3) : Fin 3 := ⟨(a.val + 2 * i.val) % 3, Nat.mod_lt _ (by decide)⟩

theorem ax_pos : ∀ i a, ax i (pos i a) = a := by decide +kernel
theorem pos_ax : ∀ i j, pos i (ax i j) = j := by decide +kernel
theorem ax_ne : ∀ i j j', j ≠ j' → ax i j ≠ ax i j' := by decide +kernel

/-- Directions and their places in a chain's order. -/
def posE (i : Ch) : Fin 3 ≃ Fin 3 := ⟨pos i, ax i, ax_pos i, pos_ax i⟩

/-- The three neighbours in a chain's order. -/
abbrev p1 (i : Ch) (d : Dev nD) : Dev nD := nb (ax i 0) d
abbrev p2 (i : Ch) (d : Dev nD) : Dev nD := nb (ax i 1) d
abbrev p3 (i : Ch) (d : Dev nD) : Dev nD := nb (ax i 2) d

/-- A message: its chain and its stage. -/
abbrev Msg : Type := Ch × Fin 5

/-- The direction a message goes in. -/
def way (m : Msg) : Fin 3 := ax m.1 (![0, 1, 2, 1, 0] m.2)

/-- Whom device `d` sends a message to, and whom it gets it from. -/
abbrev peer (m : Msg) (d : Dev nD) : Dev nD := nb (way m) d

theorem dev_eq : ∀ (i : Ch) (k : Fin 5) d, (tab i).dev k d = peer (i, k) d := by decide +kernel
theorem dev1_eq : ∀ d, (⟨k0_dev1 d, k0_dev1_lt d⟩ : Dev nD) = nb 0 d := by decide +kernel
theorem dev2_eq : ∀ d, (⟨k0_dev2 d, k0_dev2_lt d⟩ : Dev nD) = nb 1 d := by decide +kernel
theorem dev3_eq : ∀ d, (⟨k0_dev3 d, k0_dev3_lt d⟩ : Dev nD) = nb 2 d := by decide +kernel

/-! ## Rows -/

/-- Where device `d`'s half of a chain's rows begins, -/
def kb1 (i : Ch) (d : Dev nD) : ℕ := bb i + coord (ax i 0) d * hh i
/-- the other half, -/
def s1 (i : Ch) (d : Dev nD) : ℕ := bb i + (1 - coord (ax i 0) d) * hh i
/-- its quarter of its half, -/
def kb2 (i : Ch) (d : Dev nD) : ℕ := kb1 i d + coord (ax i 1) d * qq i
/-- the other quarter of it. -/
def s2 (i : Ch) (d : Dev nD) : ℕ := kb1 i d + (1 - coord (ax i 1) d) * qq i

theorem off_r1 : ∀ i d, (tab i).r1.off d = ![s1 i d, 0] := by decide +kernel
theorem off_sA : ∀ i d, (tab i).sA.off d = ![s2 i d, 0] := by decide +kernel
theorem off_rA : ∀ i d, (tab i).rA.off d = ![bb i + (1 - coord (ax i 1) d) * qq i, 0] := by decide +kernel
theorem off_r2 : ∀ i d, (tab i).r2.off d = ![s2 i d, 0] := by decide +kernel
theorem off_sB : ∀ i d, (tab i).sB.off d = ![kb2 i d, 0] := by decide +kernel
theorem off_rB : ∀ i d, (tab i).rB.off d = ![bb i + coord (ax i 1) d * qq i, 0] := by decide +kernel
theorem off_r3 : ∀ i d, (tab i).r3.off d = ![kb2 i d, 0] := by decide +kernel
theorem off_r5 : ∀ i d, (tab i).r5.off d = ![kb1 i d, 0] := by decide +kernel

theorem hh_eq : ∀ i, hh i = qq i + qq i := by decide +kernel

section Rows
variable (i : Ch) (d : Dev nD)

theorem kb1_p1 : kb1 i (p1 i d) = s1 i d := by unfold kb1 s1; rw [coord_nb]
theorem s1_p1 : s1 i (p1 i d) = kb1 i d := by rw [← kb1_p1, show p1 i (p1 i d) = d from nb_nb _ _]
theorem kb1_p2 : kb1 i (p2 i d) = kb1 i d := by unfold kb1; rw [coord_nb_ne _ _ _ (ax_ne i 0 1 (by decide))]
theorem kb1_p3 : kb1 i (p3 i d) = kb1 i d := by unfold kb1; rw [coord_nb_ne _ _ _ (ax_ne i 0 2 (by decide))]
theorem kb2_p2 : kb2 i (p2 i d) = s2 i d := by unfold kb2 s2; rw [kb1_p2, coord_nb]
theorem s2_p2 : s2 i (p2 i d) = kb2 i d := by rw [← kb2_p2, show p2 i (p2 i d) = d from nb_nb _ _]
theorem kb2_p3 : kb2 i (p3 i d) = kb2 i d := by
  unfold kb2; rw [kb1_p3, coord_nb_ne _ _ _ (ax_ne i 1 2 (by decide))]

/-- Two equal runs of rows, either one first. -/
theorem band_pair {b n c : ℕ} (hc : c ≤ 1) : band b (n + n) = band (b + c * n) n ∪ band (b + (1 - c) * n) n := by
  rcases Nat.le_one_iff_eq_zero_or_eq_one.mp hc with rfl | rfl
  · rw [band_add]; simp
  · rw [band_add, Finset.union_comm]; simp

theorem pair_disjoint {b n c : ℕ} (hc : c ≤ 1) : Disjoint (band (b + c * n) n) (band (b + (1 - c) * n) n) := by
  rcases Nat.le_one_iff_eq_zero_or_eq_one.mp hc with rfl | rfl
  · exact band_disjoint (.inl (by simp))
  · exact band_disjoint (.inr (by simp))

theorem halves : band (bb i) (hh i + hh i) = band (kb1 i d) (hh i) ∪ band (s1 i d) (hh i) := band_pair (coord_le _ _)
theorem halves_disjoint : Disjoint (band (kb1 i d) (hh i)) (band (s1 i d) (hh i)) := pair_disjoint (coord_le _ _)
theorem quarters : band (kb1 i d) (hh i) = band (kb2 i d) (qq i) ∪ band (s2 i d) (qq i) := by
  rw [hh_eq]; exact band_pair (coord_le _ _)
theorem quarters_disjoint : Disjoint (band (kb2 i d) (qq i)) (band (s2 i d) (qq i)) := pair_disjoint (coord_le _ _)

/-- The rows the three messages of a chain land in are the chain's. -/
theorem landings : band (bb i) (hh i + hh i)
    = band (bb i) (hh i) ∪ (band (bb i + hh i) (qq i) ∪ band (bb i + hh i + qq i) (qq i)) := by
  rw [← band_add, ← hh_eq, ← band_add]
theorem landings_disjoint : Disjoint (band (bb i) (hh i)) (band (bb i + hh i) (qq i) ∪ band (bb i + hh i + qq i) (qq i)) :=
  Finset.disjoint_union_right.mpr ⟨band_disjoint (.inl le_rfl), band_disjoint (.inl (Nat.le_add_right _ _))⟩
theorem landings_disjoint' : Disjoint (band (bb i + hh i) (qq i)) (band (bb i + hh i + qq i) (qq i)) := band_disjoint (.inl le_rfl)

end Rows

/-- The rows of a chain. -/
abbrev rowsOf (i : Ch) : Finset S1024x512.Idx := band (bb i) (hh i + hh i)

theorem chains_apart : ∀ i j : Ch, i ≠ j → bb i + (hh i + hh i) ≤ bb j ∨ bb j + (hh j + hh j) ≤ bb i := by decide +kernel
theorem rowsOf_disjoint (i j : Ch) (h : i ≠ j) : Disjoint (rowsOf i) (rowsOf j) := band_disjoint (chains_apart i j h)

theorem chain_exists : ∀ n : Fin 1024, ∃ i : Ch, bb i ≤ n.val ∧ n.val < bb i + (hh i + hh i) := by decide +kernel

/-- Every row is some chain's. -/
theorem rowsOf_cover : (Finset.univ : Finset Ch).biUnion rowsOf = Finset.univ := by
  ext j
  simp only [Finset.mem_biUnion, Finset.mem_univ, true_and, iff_true]
  obtain ⟨i, hi⟩ := chain_exists ⟨(j 0).val, (j 0).isLt⟩
  exact ⟨i, mem_band.mpr hi⟩

/-! ## Contents -/

section Vals
variable {F : FTy → Type} [FloatOps F] (X : Dev nD → Val F) (i : Ch) (d : Dev nD)

/-- The sum after the first exchange, -/
def vA (d : Dev nD) : Val F := ad (X d) (X (p1 i d))
/-- after the second, -/
def vB (d : Dev nD) : Val F := ad (vA X i d) (vA X i (p2 i d))
/-- after the third: all eight. -/
def vC (d : Dev nD) : Val F := ad (vB X i d) (vB X i (p3 i d))
/-- A device's half once its two quarters are in place. -/
def vH (d : Dev nD) : Val F := fun j => if j ∈ band (kb2 i d) (qq i) then vC X i d j else vC X i (p2 i d) j
/-- A chain's rows at the end. -/
def vO (d : Dev nD) : Val F := fun j => if j ∈ band (kb1 i d) (hh i) then vH X i d j else vH X i (p1 i d) j

/-- The whole result: each chain's rows by that chain. -/
def outAt (d : Dev nD) : Val F := fun j => vO X (Classical.choose (chain_exists ⟨(j 0).val, (j 0).isLt⟩)) d j

theorem outAt_eq {j : S1024x512.Idx} (hj : j ∈ rowsOf i) : outAt X d j = vO X i d j := by
  have h := Classical.choose_spec (chain_exists ⟨(j 0).val, (j 0).isLt⟩)
  have : Classical.choose (chain_exists ⟨(j 0).val, (j 0).isLt⟩) = i := by
    by_contra hne
    exact Finset.disjoint_left.mp (rowsOf_disjoint _ _ hne) (mem_band.mpr h) hj
  unfold outAt; rw [this]

end Vals

/-! ## Semaphores -/

theorem send_val : ∀ j : Fin 45, (semAt cc0_scratch1 j).val = 2 + j.val := by decide +kernel
theorem recv_val : ∀ j : Fin 45, (semAt cc0_scratch2 j).val = 47 + j.val := by decide +kernel

/-- What a semaphore of the kernel is for: the barrier, or a message's leaving (`false`) or landing (`true`). -/
abbrev Kd : Type := Option (Bool × Msg)

/-- The semaphore of each kind. -/
def csem : Kd → SemLoc sig
  | none => .reg barS
  | some (false, m) => .dma (semAt cc0_scratch1 (six m.1 m.2))
  | some (true, m) => .dma (semAt cc0_scratch2 (six m.1 m.2))

/-- The message of an index. -/
def msgAt (j : ℕ) : Msg := (⟨j / 5 % 9, Nat.mod_lt _ (by decide)⟩, ⟨j % 5, Nat.mod_lt _ (by decide)⟩)

theorem msgAt_six : ∀ m : Msg, msgAt (six m.1 m.2).val = m := by decide +kernel

/-- The kind of a semaphore of the machine, if the kernel's. -/
def kindOf : SemLoc sig → Option Kd
  | .reg s => if s = barS then some none else none
  | .dma s => if 2 ≤ s.val ∧ s.val < 47 then some (some (false, msgAt (s.val - 2)))
      else if 47 ≤ s.val ∧ s.val < 92 then some (some (true, msgAt (s.val - 47))) else none

theorem kindOf_csem (κ : Kd) : kindOf (csem κ) = some κ := by
  match κ with
  | none => show (if barS = barS then some none else none : Option Kd) = _; rw [if_pos rfl]
  | some (false, m) =>
    have h := (six m.1 m.2).isLt
    show (if _ then _ else _) = _
    rw [send_val, if_pos ⟨by omega, by omega⟩, Nat.add_sub_cancel_left, msgAt_six]
  | some (true, m) =>
    have h := (six m.1 m.2).isLt
    show (if _ then _ else _) = _
    rw [recv_val, if_neg (fun h' => by omega), if_pos ⟨by omega, by omega⟩, Nat.add_sub_cancel_left, msgAt_six]

theorem csem_injective : Function.Injective csem := fun κ κ' h =>
  Option.some.inj ((kindOf_csem κ).symm.trans ((congrArg kindOf h).trans (kindOf_csem κ')))

end Cert.KernelIdeal.Gen
-- ==== Proof.Sched.lean ====
/- The protocol: what every semaphore's signal hands over, what each device owes, and the copies and waits under it. -/
module

public import proofs.«01_k».proof.Proof.Geom

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Arrays, cells, amounts -/

abbrev xM : Arr := Memref.whole cc0_stg0_0
abbrev oM : Arr := Memref.whole cc0_stg1_0
abbrev rM : Arr := Memref.whole cc0_scratch0

/-- A device's semaphore of a kind. -/
abbrev kcell (ck : Dev nD × Kd) : GSem nD τ sig := ((ck.1 : Thread nD τ), csem ck.2)
abbrev barCell (c : Dev nD) : GSem nD τ sig := kcell (c, none)
abbrev sendCell (c : Dev nD) (m : Msg) : GSem nD τ sig := kcell (c, some (false, m))
abbrev recvCell (c : Dev nD) (m : Msg) : GSem nD τ sig := kcell (c, some (true, m))

theorem kcell_injective : Function.Injective kcell := by
  rintro ⟨c, κ⟩ ⟨c', κ'⟩ h
  have h1 : c = c' := congrArg (fun g : GSem nD τ sig => g.1.1) h
  have h2 : κ = κ' := csem_injective (congrArg Prod.snd h)
  rw [h1, h2]

/-- How many rows a message carries. -/
def rowsIn : Msg → ℕ
  | (i, ⟨0, _⟩) => hh i
  | (i, ⟨4, _⟩) => hh i
  | (i, _) => qq i

/-- What a message counts on its semaphores. -/
def cr (m : Msg) : ℕ := Ref.dmaCredit cc0_scratch0 (SR (rowsIn m)) .f32

theorem rowsIn_pos : ∀ m, 0 < (SR (rowsIn m)).numel := by decide +kernel
theorem cr_pos (m : Msg) : 0 < cr m := sig.dmaCredit_pos _ _ _ _ _ (rowsIn_pos m)

/-! ## The schedule -/

section Sched
variable (X : Dev nD → Val F)

/-- What comes back with a message's leaving: the rows it was copied from (those of the second message go along with it). -/
def sendPay (c : Dev nD) : Msg → sProp 𝕄
  | (i, ⟨0, _⟩) => own xM c (band (s1 i c) (hh i)) (X c)
  | (i, ⟨1, _⟩) => iprop(emp)
  | (i, ⟨2, _⟩) => own oM c (band (kb2 i c) (qq i)) (vB X i c)
  | (i, ⟨3, _⟩) => own oM c (band (kb2 i c) (qq i)) (vC X i c)
  | (i, ⟨4, _⟩) => own oM c (band (kb1 i c) (hh i)) (vH X i c)

/-- What comes with a message's landing on device `c`: the rows it landed in; with the second also the rows it came from,
    where `c` puts the fourth. -/
def recvPay (c : Dev nD) : Msg → sProp 𝕄
  | (i, ⟨0, _⟩) => own rM c (band (bb i) (hh i)) (fun j => X (p1 i c) (mv (bb i) (kb1 i c) j))
  | (i, ⟨1, _⟩) => iprop(own rM c (band (bb i + hh i) (qq i)) (fun j => vA X i (p2 i c) (mv (bb i + hh i) (kb2 i c) j))
      ∗ own oM (p2 i c) (band (kb2 i c) (qq i)) (vA X i (p2 i c)))
  | (i, ⟨2, _⟩) => own rM c (band (bb i + hh i + qq i) (qq i)) (fun j => vB X i (p3 i c) (mv (bb i + hh i + qq i) (kb2 i c) j))
  | (i, ⟨3, _⟩) => own oM c (band (s2 i c) (qq i)) (vC X i (p2 i c))
  | (i, ⟨4, _⟩) => own oM c (band (s1 i c) (hh i)) (vH X i (p1 i c))

/-- What device `e` gets of a neighbour's for chain `i`: the rows its message to that neighbour lands in, and from the first
    neighbour the half of the result it sends at the end. -/
def lend (i : Ch) (e : Dev nD) : Fin 3 → sProp 𝕄
  | 0 => iprop(lent rM (p1 i e) (band (bb i) (hh i)) ∗ lent oM (p1 i e) (band (kb1 i e) (hh i)))
  | 1 => lent rM (p2 i e) (band (bb i + hh i) (qq i))
  | 2 => lent rM (p3 i e) (band (bb i + hh i + qq i) (qq i))

/-- What the neighbour of `e` in direction `a` hands it at the barrier. -/
def barPay (e : Dev nD) (a : Fin 3) : sProp 𝕄 := bigSep Finset.univ fun i : Ch => lend i e (pos i a)

instance sendPay_storable (c : Dev nD) (m : Msg) : BI.Storable (upEmb : UEmb _ 𝕄) (sendPay X c m) := by
  unfold sendPay; split <;> infer_instance
instance recvPay_storable (c : Dev nD) (m : Msg) : BI.Storable (upEmb : UEmb _ 𝕄) (recvPay X c m) := by
  unfold recvPay; split <;> infer_instance
instance lend_storable (i : Ch) (e : Dev nD) (j : Fin 3) : BI.Storable (upEmb : UEmb _ 𝕄) (lend (F := F) i e j) := by
  unfold lend; split <;> infer_instance
instance barPay_storable (e : Dev nD) (a : Fin 3) : BI.Storable (upEmb : UEmb _ 𝕄) (barPay (F := F) e a) := by
  unfold barPay; infer_instance

/-- The duties of a kind of cell: a barrier's one from each direction, a message's one. -/
def dutiesK : Kd → Finset (Fin 3)
  | none => Finset.univ
  | some _ => {0}
/-- How much each counts. -/
def amountK : Kd → ℕ
  | none => 1
  | some (_, m) => cr m
/-- What each hands over. -/
def payK (c : Dev nD) : Kd → Fin 3 → sProp 𝕄
  | none, a => barPay c a
  | some (false, m), _ => sendPay X c m
  | some (true, m), _ => recvPay X c m

instance payK_storable (c : Dev nD) (κ : Kd) (a : Fin 3) : BI.Storable (upEmb : UEmb _ 𝕄) (payK X c κ a) := by
  unfold payK; split <;> infer_instance

/-- Every cell of the kernel's has one round. -/
def Rd : Rounds.Schedule (GSem nD τ sig) (Fin 3) 𝕄 where
  duties g r := if r = 0 ∧ g.1.2 = .tc then (kindOf g.2).elim ∅ dutiesK else ∅
  unitless _ := False
  amount g _ _ := (kindOf g.2).elim 1 amountK
  payload g _ a := (kindOf g.2).elim iprop(emp) fun κ => payK X g.1.1 κ a
  amount_pos g _ _ _ := by
    rcases kindOf g.2 with _ | _ | ⟨b, m⟩
    · exact Nat.one_pos
    · exact Nat.one_pos
    · exact cr_pos m

instance Rd_storable (g : GSem nD τ sig) (r : ℕ) (a : Fin 3) : BI.Storable (upEmb : UEmb _ 𝕄) ((Rd X).payload g r a) := by
  show BI.Storable upEmb ((kindOf g.2).elim iprop(emp) fun κ => payK X g.1.1 κ a)
  cases kindOf g.2 <;> dsimp only [Option.elim] <;> infer_instance

variable (c : Dev nD) (κ : Kd)

theorem duties_eq : (Rd X).duties (kcell (c, κ)) 0 = dutiesK κ := by
  show (if (0 : ℕ) = 0 ∧ (c : Thread nD τ).2 = .tc then (kindOf (csem κ)).elim ∅ dutiesK else ∅) = _
  rw [if_pos ⟨rfl, rfl⟩, kindOf_csem]; rfl
theorem duties_later (g : GSem nD τ sig) : ∀ r, 1 ≤ r → (Rd X).duties g r = ∅ := fun r hr => by
  show (if r = 0 ∧ g.1.2 = .tc then (kindOf g.2).elim ∅ dutiesK else ∅) = _
  exact if_neg fun h => by omega
theorem amount_eq (a : Fin 3) : (Rd X).amount (kcell (c, κ)) 0 a = amountK κ := by
  show (kindOf (csem κ)).elim 1 amountK = _; rw [kindOf_csem]; rfl
theorem payload_eq (a : Fin 3) : (Rd X).payload (kcell (c, κ)) 0 a = payK X c κ a := by
  show (kindOf (csem κ)).elim iprop(emp) (fun κ => payK X c κ a) = _; rw [kindOf_csem]; rfl

theorem expect_bar : (Rd X).expect (barCell c) 0 = 3 := by
  unfold Schedule.expect Schedule.amountOf
  rw [duties_eq, Finset.sum_congr rfl fun d _ => amount_eq X c none d, Finset.sum_const]; rfl
theorem expect_msg (b : Bool) (m : Msg) : (Rd X).expect (kcell (c, some (b, m))) 0 = cr m := by
  unfold Schedule.expect Schedule.amountOf
  rw [duties_eq]; show Finset.sum {0} _ = _; rw [Finset.sum_singleton, amount_eq]; rfl

theorem rest_eq : bigSep ((Rd X).duties (kcell (c, κ)) 0 \ ∅) (fun a => (Rd X).payload (kcell (c, κ)) 0 a)
    = bigSep (dutiesK κ) (payK X c κ) := by
  rw [Finset.sdiff_empty, duties_eq]; exact bigSep_congr fun a _ => payload_eq X c κ a
theorem rest_msg (b : Bool) (m : Msg) :
    bigSep ((Rd X).duties (kcell (c, some (b, m))) 0 \ ∅) (fun a => (Rd X).payload (kcell (c, some (b, m))) 0 a)
    = payK X c (some (b, m)) 0 := by
  rw [rest_eq]; exact bigSep_singleton

end Sched

/-! ## Levels, what is owed -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A landing is above the landings of earlier stages, these above the barrier, the barrier above all else. -/
def lvK : Kd → ℕ
  | none => 1
  | some (false, _) => 0
  | some (true, m) => m.2.val + 2
def lv (g : GSem nD τ sig) (_ : Unit) : ℕ := (kindOf g.2).elim 0 lvK
theorem lv_kcell (ck : Dev nD × Kd) : lv (kcell ck) () = lvK ck.2 := by unfold lv; rw [kindOf_csem]; rfl

/-- What device `c` owes for a message: its landing at the peer. -/
def debt (c : Dev nD) (m : Msg) : CellTallies nD τ sig Unit := tallyAt (recvCell (peer m c) m) () (cr m)

/-- What it owes during stage `k` with the chains `l` still to send, -/
def due (c : Dev nD) (k : ℕ) (l : List Ch) : CellTallies nD τ sig Unit :=
  (∑ k' : Fin 5 with k < k'.val, ∑ i : Ch, debt c (i, k')) + (if h : k < 5 then (l.map fun i => debt c (i, ⟨k, h⟩)).sum else 0)

/-- the nine chains in order. -/
abbrev chains : List Ch := [0, 1, 2, 3, 4, 5, 6, 7, 8]

theorem due_cons (c : Dev nD) (k : Fin 5) (i : Ch) (l : List Ch) : due c k.val (i :: l) = due c k.val l + debt c (i, k) := by
  unfold due
  rw [dif_pos k.isLt, dif_pos k.isLt, List.map_cons, List.sum_cons, add_comm (debt c _), ← add_assoc]

theorem sum_chains {A : Type} [AddCommMonoid A] (f : Ch → A) : (chains.map f).sum = ∑ i, f i := by
  rw [← List.sum_toFinset f (by decide)]; rfl

theorem due_nil (c : Dev nD) (k : ℕ) (hk : k < 4) : due c k [] = due c (k + 1) chains := by
  unfold due
  rw [dif_pos (by omega), dif_pos (show k + 1 < 5 by omega), sum_chains, List.map_nil, List.sum_nil, add_zero,
    show (Finset.univ.filter fun k' : Fin 5 => k < k'.val)
      = insert ⟨k + 1, by omega⟩ (Finset.univ.filter fun k' : Fin 5 => k + 1 < k'.val) from by
        ext k'; simp only [Finset.mem_filter, Finset.mem_univ, true_and, Finset.mem_insert, Fin.ext_iff]; omega,
    Finset.sum_insert (by simp), add_comm]

theorem due_end (c : Dev nD) : due c 4 [] = 0 := by
  unfold due
  rw [dif_pos (by decide), List.map_nil, List.sum_nil, add_zero]
  exact Finset.sum_eq_zero fun k' h => by have := (Finset.mem_filter.mp h).2; omega

theorem due_all (c : Dev nD) : due c 0 chains = ∑ m : Msg, debt c m := by
  unfold due
  rw [dif_pos (by decide), sum_chains, Fintype.sum_prod_type_right,
    ← Finset.sum_filter_add_sum_filter_not Finset.univ (fun k' : Fin 5 => 0 < k'.val) (fun k' => ∑ i : Ch, debt c (i, k')),
    show (Finset.univ.filter fun k' : Fin 5 => ¬ 0 < k'.val) = {0} from by decide, Finset.sum_singleton]
  rfl

/-- A sum of debts owes only to landings among the summands. -/
def Owes (k : ℕ) (O : CellTallies nD τ sig Unit) : Prop :=
  ∀ g u, 0 < O g u → ∃ ck : Dev nD × Kd, g = kcell ck ∧ k < lvK ck.2

theorem Owes.zero (k : ℕ) : Owes k 0 := fun _ _ h => absurd h (Nat.lt_irrefl 0)
theorem Owes.add {k : ℕ} {O O' : CellTallies nD τ sig Unit} (h : Owes k O) (h' : Owes k O') : Owes k (O + O') := fun g u hg => by
  rw [Pi.add_apply, Finsupp.add_apply] at hg
  rcases Nat.eq_zero_or_pos (O g u) with h0 | h0
  · exact h' g u (by omega)
  · exact h g u h0
theorem Owes.tally {k n : ℕ} (ck : Dev nD × Kd) (h : k < lvK ck.2) : Owes k (tallyAt (kcell ck) () n) := fun g u hg => by
  rw [tallyAt_apply] at hg
  by_cases hc : g = kcell ck ∧ u = ()
  · exact ⟨ck, hc.1, h⟩
  · rw [if_neg hc] at hg; exact absurd hg (Nat.lt_irrefl 0)
theorem Owes.sum {k : ℕ} {I : Type} (s : Finset I) (f : I → CellTallies nD τ sig Unit) (h : ∀ i ∈ s, Owes k (f i)) : Owes k (∑ i ∈ s, f i) :=
  Finset.sum_induction f (Owes k) (fun _ _ => Owes.add) (.zero k) h

theorem owes_due (c : Dev nD) (k : ℕ) (l : List Ch) : Owes (k + 1) (due c k l) := by
  unfold due
  refine .add (.sum _ _ fun k' h => .sum _ _ fun i _ => .tally _ (by
    have := (Finset.mem_filter.mp h).2; show k + 1 < k'.val + 2; omega)) ?_
  split
  · induction l with
    | nil => exact .zero _
    | cons i l ih => rw [List.map_cons, List.sum_cons]; exact .add (.tally _ (Nat.lt_succ_self _)) ih
  · exact .zero _

/-- A device may wait where it owes only to higher cells. -/
theorem may_wait {k : ℕ} {O : CellTallies nD τ sig Unit} (hO : Owes k O) (c : Dev nD) (sm : SemLoc sig)
    (h : lv ((c : Thread nD τ), sm) () ≤ k) : (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by obtain ⟨ck, rfl, -⟩ := hO g u hg; exact Finset.mem_singleton_self _)
    (fun p hp => by rw [Finset.mem_singleton.mp hp]; exact h)
    (fun g u hg => by obtain ⟨ck, rfl, hk⟩ := hO g u hg; exact (lv_kcell ck).symm ▸ hk)

/-! ## What is on record of every cell -/

section Ops
variable (X : Dev nD → Val F) (K : Dev nD × Kd → ℕ)

/-- Every cell keeps its schedule, and is at its one round; the levels are as said. -/
def records : sProp 𝕄 :=
  iprop((bigSep Finset.univ fun ck : Dev nD × Kd => cellInv ER (Rd X) (K ck) (kcell ck))
    ∗ (bigSep Finset.univ fun ck : Dev nD × Kd => reached ER (kcell ck) 0) ∗ levAts L lv)

instance records_persistent : BI.Persistent (records X K) := by unfold records; infer_instance

theorem inv_at (ck : Dev nD × Kd) : records X K ⊢ cellInv ER (Rd X) (K ck) (kcell ck) := by
  unfold records
  iintro ⟨H, -, -⟩
  iapply (show (bigSep Finset.univ fun ck : Dev nD × Kd => (cellInv ER (Rd X) (K ck) (kcell ck) : sProp 𝕄)) ⊢ cellInv ER (Rd X) (K ck) (kcell ck)
    from bigSep_elim (Finset.mem_univ ck)) $$ H
theorem reached_at (ck : Dev nD × Kd) : records X K ⊢ reached ER (kcell ck) 0 := by
  unfold records
  iintro ⟨-, H, -⟩
  iapply (show (bigSep Finset.univ fun ck : Dev nD × Kd => (reached ER (kcell ck) 0 : sProp 𝕄)) ⊢ reached ER (kcell ck) 0
    from bigSep_elim (Finset.mem_univ ck)) $$ H
theorem levels_at : records X K ⊢ (levAts L lv : sProp 𝕄) := by
  unfold records
  iintro ⟨-, -, H⟩
  iexact H

/-- What a device owes, whatever it has waited for. -/
def ow (c : Dev nD) (O : CellTallies nD τ sig Unit) : sProp 𝕄 := iprop(∃ W, owes (c : Thread nD τ) O W)

variable {X K} {c : Dev nD}

section Copy
variable {n : ℕ} {R R' : Rows n} {d d' : Dev nD} {lo lo' : ℕ}

theorem rows_set (a : Arr) (h : R.off d = ![lo, 0]) : (rows a R d).view.set = a.view.setOn (band lo n) := by
  show (a.view.slice (rect R d)).set = _; rw [View.set_slice, rect_set h]; rfl

/-- The rows a copy names, at contents that read as said, are owned. -/
theorem own_rows {a : Arr} (h : R.off d = ![lo, 0]) {e : Dev nD} {V : Val F} {f : Buf (Elt F) (a.view.loc (e : Thread nD τ))}
    (hf : ∀ i ∈ band lo n, a.view.read (Elt F) f i = V i) :
    ((rows a R d).view.loc (e : Thread nD τ) ↦[(rows a R d).view.set]{fullShare} f) ⊢ (own a e (band lo n) V : sProp 𝕄) := by
  rw [rows_set a h]
  unfold own
  iintro H
  iexists f
  isplitr; · ipureintro; exact hf
  iexact H

/-- What a copy leaves behind: the rows copied, moved. -/
theorem copied {a b : Arr} (h : R.off d = ![lo, 0]) (h' : R'.off d' = ![lo', 0]) {e : Dev nD} {V : Val F}
    {fs : Buf (Elt F) (a.view.loc (c : Thread nD τ))} (hf : ∀ i ∈ band lo n, a.view.read (Elt F) fs i = V i)
    (fd : Buf (Elt F) (b.view.loc (e : Thread nD τ))) :
    ((rows b R' d').view.loc (e : Thread nD τ) ↦[(rows b R' d').view.set]{fullShare}
        ((rows b R' d').view.write (Elt F) fd ((rows a R d).view.read (Elt F) fs) Finset.univ))
      ⊢ (own b e (band lo' n) (fun j => V (mv lo' lo j)) : sProp 𝕄) := by
  rw [rows_set b h']
  unfold own
  iintro H
  iexists ((rows b R' d').view.write (Elt F) fd ((rows a R d).view.read (Elt F) fs) Finset.univ)
  isplitr
  · ipureintro
    intro i hi
    obtain ⟨j, rfl⟩ := emb_surj h' hi
    rw [View.read_apply]
    refine (congrArg _ (View.write_emb_of_mem (v := (rows b R' d').view) (Val := Elt F) fd _ (Finset.mem_univ j))).trans ?_
    rw [cast_cast, cast_eq]
    show _ = V (mv lo' lo ((rect R' d').emb j))
    rw [mv_emb h h' j]
    exact hf _ (emb_mem h j)
  iexact H

variable {a b : Arr} {m : Msg} {p : Dev nD} {V : Val F} {O : CellTallies nD τ sig Unit}

/-- Starting a message: the rows sent come back when it has left, the rows landed in go to the peer with it. -/
theorem wp_start (hp : p = peer m c) (h : R.off c = ![lo, 0]) (h' : R'.off c = ![lo', 0]) (hN : (rows b R' c).view.dmaCredit = cr m)
    (h₁ : own a c (band lo n) V ⊢ sendPay X c m) (h₂ : own b (peer m c) (band lo' n) (fun j => V (mv lo' lo j)) ⊢ recvPay X (peer m c) m)
    {α : Type} {Q : α → sProp 𝕄} (k : PUnit → Prog (TpuEff nD τ sig (Elt F) Λ₀ .tc) α)
    {sA sB : SemLoc sig} (hA : sA = csem (some (false, m))) (hB : sB = csem (some (true, m))) {hs hw₁ hw₂ hT} :
    iprop(records X K ∗ own a c (band lo n) V ∗ lent b (peer m c) (band lo' n) ∗ ow c (O + debt c m)
        ∗ dutyTok ER (sendCell c m) 0 0 ∗ dutyTok ER (recvCell (peer m c) m) 0 0)
      ⊢ iprop(((cred (tallyAt (sendCell c m) () (cr m)) ∗ ow c O) -∗ wpc c (k ⟨⟩) Q)
        -∗ wpc c (.op (.enqueueDma (rows a R c) (.remote (Dev.tc p) (rows b R' c) sA hs) sB hw₁ hw₂ hT) k) Q) := by
  subst hp hA hB
  iintro ⟨#Hrec, Ha, Hb, HO, Ht, Ht'⟩ Hk
  unfold lent own ow
  icases Ha with ⟨%f, %hf, Ha⟩
  icases Hb with ⟨%V', %g, %hg, Hb⟩
  icases HO with ⟨%W, HO⟩
  rw [← rows_set a h, ← rows_set b h']
  iapply (Rounds.wp_send_pointsTo Variants.none ER (Rd X) (c : Thread nD τ) none (κ₁ := K (c, some (false, m))) (κ₂ := K (peer m c, some (true, m)))
      (r₁ := 0) (r₂ := 0) (d₁ := 0) (d₂ := 0) (src := rows a R c) (c' := (peer m c : Thread nD τ)) (dst := rows b R' c) (sS := csem (some (false, m))) (sem := csem (some (true, m))) (q := fullShare) (fs := f) (fd := g)
      (by rw [duties_eq]; exact Finset.mem_singleton_self _) (by rw [duties_eq]; exact Finset.mem_singleton_self _)
      () () (cr m) hN (amount_eq X c _ 0) (amount_eq X _ _ 0) O rfl (W := W)
      (by
        rw [payload_eq]
        exact (own_rows h hf).trans h₁)
      (by rw [payload_eq]; exact (copied h h' hf g).trans h₂)) $$ [Ha Hb HO Ht Ht']
  · isplitr; · iapply (inv_at X K (c, some (false, m))); iexact Hrec
    isplitr; · iapply (inv_at X K (peer m c, some (true, m))); iexact Hrec
    isplitl [Ha]; · iexact Ha
    isplitl [Hb]; · iexact Hb
    isplitl [HO]; · iexact HO
    isplitl [Ht]; · iexact Ht
    isplitr; · iapply (reached_at X K (c, some (false, m))); iexact Hrec
    isplitl [Ht']; · iexact Ht'
    iapply (reached_at X K (peer m c, some (true, m))); iexact Hrec
  iintro ⟨Hc, HO⟩
  iapply Hk
  isplitl [Hc]; · iexact Hc
  iexists W; iexact HO

/-- The same for a message that takes the rows sent along. -/
theorem wp_start_along (hp : p = peer m c) (h : R.off c = ![lo, 0]) (h' : R'.off c = ![lo', 0]) (hN : (rows b R' c).view.dmaCredit = cr m)
    (h₁ : (iprop(emp) : sProp 𝕄) ⊢ sendPay X c m)
    (h₂ : iprop(own b (peer m c) (band lo' n) (fun j => V (mv lo' lo j)) ∗ own a c (band lo n) V) ⊢ recvPay X (peer m c) m)
    {α : Type} {Q : α → sProp 𝕄} (k : PUnit → Prog (TpuEff nD τ sig (Elt F) Λ₀ .tc) α)
    {sA sB : SemLoc sig} (hA : sA = csem (some (false, m))) (hB : sB = csem (some (true, m))) {hs hw₁ hw₂ hT} :
    iprop(records X K ∗ own a c (band lo n) V ∗ lent b (peer m c) (band lo' n) ∗ ow c (O + debt c m)
        ∗ dutyTok ER (sendCell c m) 0 0 ∗ dutyTok ER (recvCell (peer m c) m) 0 0)
      ⊢ iprop(((cred (tallyAt (sendCell c m) () (cr m)) ∗ ow c O) -∗ wpc c (k ⟨⟩) Q)
        -∗ wpc c (.op (.enqueueDma (rows a R c) (.remote (Dev.tc p) (rows b R' c) sA hs) sB hw₁ hw₂ hT) k) Q) := by
  subst hp hA hB
  iintro ⟨#Hrec, Ha, Hb, HO, Ht, Ht'⟩ Hk
  unfold lent own ow
  icases Ha with ⟨%f, %hf, Ha⟩
  icases Hb with ⟨%V', %g, %hg, Hb⟩
  icases HO with ⟨%W, HO⟩
  rw [← rows_set a h, ← rows_set b h']
  iapply (Rounds.wp_send_landing_pointsTo Variants.none ER (Rd X) (c : Thread nD τ) none (κ₁ := K (c, some (false, m))) (κ₂ := K (peer m c, some (true, m)))
      (r₁ := 0) (r₂ := 0) (d₁ := 0) (d₂ := 0) (src := rows a R c) (c' := (peer m c : Thread nD τ)) (dst := rows b R' c) (sS := csem (some (false, m))) (sem := csem (some (true, m))) (q := fullShare) (fs := f) (fd := g)
      (by rw [duties_eq]; exact Finset.mem_singleton_self _) (by rw [duties_eq]; exact Finset.mem_singleton_self _)
      () () (cr m) hN (amount_eq X c _ 0) (amount_eq X _ _ 0) O rfl (W := W)
      (by rw [payload_eq]; exact h₁)
      (by
        rw [payload_eq]
        exact (BI.sep_mono (copied h h' hf g) (own_rows h hf)).trans h₂)) $$ [Ha Hb HO Ht Ht']
  · isplitr; · iapply (inv_at X K (c, some (false, m))); iexact Hrec
    isplitr; · iapply (inv_at X K (peer m c, some (true, m))); iexact Hrec
    isplitl [Ha]; · iexact Ha
    isplitl [Hb]; · iexact Hb
    isplitl [HO]; · iexact HO
    isplitl [Ht]; · iexact Ht
    isplitr; · iapply (reached_at X K (c, some (false, m))); iexact Hrec
    isplitl [Ht']; · iexact Ht'
    iapply (reached_at X K (peer m c, some (true, m))); iexact Hrec
  iintro ⟨Hc, HO⟩
  iapply Hk
  isplitl [Hc]; · iexact Hc
  iexists W; iexact HO

end Copy

/-- Waiting on one of a message's cells: its payload comes, and the cell has had its round. -/
theorem wp_wait {m : Msg} {w : Bool} {n : ℕ} {src dst : Memref sig .tc .vmem (SR n) .f32} {O : CellTallies nD τ sig Unit} {lev : ℕ}
    (hN : dst.view.dmaCredit = cr m) (hO : Owes lev O) (hl : lvK (some (w, m)) ≤ lev) {sem : DmaSem sig} (hs : SemLoc.dma sem = csem (some (w, m)))
    {α : Type} {Q : α → sProp 𝕄} (k : PUnit → Prog (TpuEff nD τ sig (Elt F) Λ₀ .tc) α) {hw₁ hw₂} :
    iprop(records X K ∗ cred (tallyAt (kcell (c, some (w, m))) () (cr m)) ∗ ow c O ∗ atPos ER (kcell (c, some (w, m))) 0 ∅ 0)
      ⊢ iprop(((ow c O ∗ atPos ER (kcell (c, some (w, m))) 1 ∅ 0 ∗ payK X c (some (w, m)) 0) -∗ wpc c (k ⟨⟩) Q)
        -∗ wpc c (.op (.waitDma2 sem src dst hw₁ hw₂) k) Q) := by
  iintro ⟨#Hrec, Hc, HO, Hat⟩ Hk
  unfold ow
  icases HO with ⟨%W, HO⟩
  have hd : dst.view.ref.dmaCredit (SR n) .f32 = cr m := hN
  have key := Rounds.wp_wait_rest_token Variants.none ER (Rd X) (c : Thread nD τ) none (κ := K (c, some (w, m))) (Q := Q) (k := k)
      (wpE_waitDma2_eq (Val := Elt F) (defs := defs₀ (F := F)) Variants.none (c : Thread nD τ) none Set.univ (sem := sem) (src := src) (dst := dst) (hsrc := hw₁) (hdst := hw₂)) (Set.mem_univ _) () (O := O) (W := W) (R := 0) (m := 0) (T := ∅)
      (by rw [Nat.zero_add, hs]; exact hd.trans (expect_msg X c w m).symm)
  rw [hs] at key
  rw [show dst.view.dmaCredit = cr m from hN] at key
  iapply key $$ [Hc HO Hat]
  · isplitr; · iapply (inv_at X K (c, some (w, m))); iexact Hrec
    isplitl [Hc]; · iexact Hc
    isplitl [HO]; · iexact HO
    isplitr
    · iapply (may_wait hO c _ (by rw [show lv ((c : Thread nD τ), csem (some (w, m))) () = _ from lv_kcell (c, some (w, m))]; exact hl))
      iapply (levels_at X K); iexact Hrec
    iexact Hat
  iintro ⟨HO, Hat, -, Hp⟩
  ihave Hp' := (Entails.of_eq (rest_msg X c w m)) $$ Hp
  iapply Hk
  isplitl [HO]; · iexists _; iexact HO
  isplitl [Hat]; · iexact Hat
  iexact Hp'

end Ops

end Cert.KernelIdeal.Gen
-- ==== Proof.Steps.lean ====
/- A chain's steps: what it holds before each, and that each takes it to the next. -/
module

public import proofs.«01_k».proof.Proof.Sched

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-- A program of the kernel's. -/
abbrev Pr (F : FTy → Type) (α : Type) := Prog (TpuEff nD τ sig (Elt F) Λ₀ .tc) α

/-! ## A message's cells -/

section Cells
variable (c : Dev nD) (m : Msg)

/-- A message not yet sent: both cells untouched, the right to pay each of its duties, the claim to its peer's landing. -/
def kit : sProp 𝕄 :=
  iprop(atPos ER (sendCell c m) 0 ∅ 0 ∗ atPos ER (recvCell c m) 0 ∅ 0 ∗ dutyTok ER (sendCell c m) 0 0 ∗ dutyTok ER (recvCell (peer m c) m) 0 0
    ∗ cred (tallyAt (recvCell c m) () (cr m)))
/-- A message sent and not waited for. -/
def fly : sProp 𝕄 :=
  iprop(atPos ER (sendCell c m) 0 ∅ 0 ∗ atPos ER (recvCell c m) 0 ∅ 0 ∗ cred (tallyAt (sendCell c m) () (cr m)) ∗ cred (tallyAt (recvCell c m) () (cr m)))
/-- A message done with. -/
def over : sProp 𝕄 := iprop(atPos ER (sendCell c m) 1 ∅ 0 ∗ atPos ER (recvCell c m) 1 ∅ 0)

end Cells

section Ops
variable {X : Dev nD → Val F} {K : Dev nD × Kd → ℕ} {c : Dev nD}

/-- Sending: a message not yet sent becomes one sent. -/
theorem start_rule {a b : Arr} {i : Ch} {k : Fin 5} {n : ℕ} {R R' : Rows n} {lo lo' : ℕ} {V : Val F} {O : CellTallies nD τ sig Unit}
    (h : R.off c = ![lo, 0]) (h' : R'.off c = ![lo', 0]) (hN : (rows b R' c).view.dmaCredit = cr (i, k))
    (h₁ : own a c (band lo n) V ⊢ sendPay X c (i, k)) (h₂ : own b (peer (i, k) c) (band lo' n) (fun j => V (mv lo' lo j)) ⊢ recvPay X (peer (i, k) c) (i, k))
    {α : Type} {Q : α → sProp 𝕄} (p : Pr F α) :
    iprop(records X K ∗ own a c (band lo n) V ∗ lent b (peer (i, k) c) (band lo' n) ∗ ow c (O + debt c (i, k)) ∗ kit c (i, k))
      ⊢ iprop(((fly c (i, k) ∗ ow c O) -∗ wpc c p Q)
        -∗ wpc c (start cc0_scratch1 cc0_scratch2 (six i k) (rows a R c) (rows b R' c) ((tab i).dev k c) >>= fun _ => p) Q) := by
  simp only [start, await, add, Prog.lift, Prog.bind_op, Prog.bind_ret]
  unfold kit fly
  iintro ⟨#Hrec, Ha, Hb, HO, Hs, Hr, Ht, Ht', Hc⟩ Hk
  iapply (wp_start (X := X) (K := K) (c := c) (m := (i, k)) (dev_eq i k c) h h' hN h₁ h₂ (fun _ => p) rfl rfl) $$ [Ha Hb HO Ht Ht']
  · isplitr; · iexact Hrec
    isplitl [Ha]; · iexact Ha
    isplitl [Hb]; · iexact Hb
    isplitl [HO]; · iexact HO
    isplitl [Ht]; · iexact Ht
    iexact Ht'
  iintro ⟨Hcs, HO⟩
  iapply Hk
  isplitr [HO]
  · isplitl [Hs]; · iexact Hs
    isplitl [Hr]; · iexact Hr
    isplitl [Hcs]; · iexact Hcs
    iexact Hc
  iexact HO

theorem start_along_rule {a b : Arr} {i : Ch} {k : Fin 5} {n : ℕ} {R R' : Rows n} {lo lo' : ℕ} {V : Val F} {O : CellTallies nD τ sig Unit}
    (h : R.off c = ![lo, 0]) (h' : R'.off c = ![lo', 0]) (hN : (rows b R' c).view.dmaCredit = cr (i, k))
    (h₁ : (iprop(emp) : sProp 𝕄) ⊢ sendPay X c (i, k))
    (h₂ : iprop(own b (peer (i, k) c) (band lo' n) (fun j => V (mv lo' lo j)) ∗ own a c (band lo n) V) ⊢ recvPay X (peer (i, k) c) (i, k))
    {α : Type} {Q : α → sProp 𝕄} (p : Pr F α) :
    iprop(records X K ∗ own a c (band lo n) V ∗ lent b (peer (i, k) c) (band lo' n) ∗ ow c (O + debt c (i, k)) ∗ kit c (i, k))
      ⊢ iprop(((fly c (i, k) ∗ ow c O) -∗ wpc c p Q)
        -∗ wpc c (start cc0_scratch1 cc0_scratch2 (six i k) (rows a R c) (rows b R' c) ((tab i).dev k c) >>= fun _ => p) Q) := by
  simp only [start, await, add, Prog.lift, Prog.bind_op, Prog.bind_ret]
  unfold kit fly
  iintro ⟨#Hrec, Ha, Hb, HO, Hs, Hr, Ht, Ht', Hc⟩ Hk
  iapply (wp_start_along (X := X) (K := K) (c := c) (m := (i, k)) (dev_eq i k c) h h' hN h₁ h₂ (fun _ => p) rfl rfl) $$ [Ha Hb HO Ht Ht']
  · isplitr; · iexact Hrec
    isplitl [Ha]; · iexact Ha
    isplitl [Hb]; · iexact Hb
    isplitl [HO]; · iexact HO
    isplitl [Ht]; · iexact Ht
    iexact Ht'
  iintro ⟨Hcs, HO⟩
  iapply Hk
  isplitr [HO]
  · isplitl [Hs]; · iexact Hs
    isplitl [Hr]; · iexact Hr
    isplitl [Hcs]; · iexact Hcs
    iexact Hc
  iexact HO

/-- Waiting: a message sent becomes one done with, and what it was to hand over comes. -/
theorem await_rule {i : Ch} {k : Fin 5} {n : ℕ} {src dst : Memref sig .tc .vmem (SR n) .f32} {O : CellTallies nD τ sig Unit}
    {P P' : sProp 𝕄} (hP : sendPay X c (i, k) = P) (hP' : recvPay X c (i, k) = P')
    (hs : src.view.dmaCredit = cr (i, k)) (hd : dst.view.dmaCredit = cr (i, k)) (hO : Owes (k.val + 2) O) {α : Type} {Q : α → sProp 𝕄} (p : Pr F α) :
    iprop(records X K ∗ ow c O ∗ fly c (i, k))
      ⊢ iprop(((ow c O ∗ over c (i, k) ∗ P ∗ P') -∗ wpc c p Q)
        -∗ wpc c (await cc0_scratch1 cc0_scratch2 (six i k) src dst >>= fun _ => p) Q) := by
  subst hP hP'
  simp only [start, await, add, Prog.lift, Prog.bind_op, Prog.bind_ret]
  unfold over fly
  iintro ⟨#Hrec, HO, Hs, Hr, Hcs, Hcr⟩ Hk
  iapply (wp_wait (X := X) (K := K) (c := c) (m := (i, k)) (w := false) (lev := k.val + 2) hs hO (Nat.zero_le _) rfl _) $$ [HO Hs Hcs]
  · isplitr; · iexact Hrec
    isplitl [Hcs]; · iexact Hcs
    isplitl [HO]; · iexact HO
    iexact Hs
  iintro ⟨HO, Hs, Hps⟩
  iapply (wp_wait (X := X) (K := K) (c := c) (m := (i, k)) (w := true) (lev := k.val + 2) hd hO le_rfl rfl _) $$ [HO Hr Hcr]
  · isplitr; · iexact Hrec
    isplitl [Hcr]; · iexact Hcr
    isplitl [HO]; · iexact HO
    iexact Hr
  iintro ⟨HO, Hr, Hpr⟩
  iapply Hk
  isplitl [HO]; · iexact HO
  isplitl [Hs Hr]
  · isplitl [Hs]; · iexact Hs
    iexact Hr
  isplitl [Hps]
  · iapply (show payK X c (some (false, (i, k))) 0 ⊢ sendPay X c (i, k) from .rfl); iexact Hps
  iapply (show payK X c (some (true, (i, k))) 0 ⊢ recvPay X c (i, k) from .rfl); iexact Hpr

/-- A reshaping to the same shape changes nothing. -/
theorem shapeCast_same {n : ℕ} (v : Vec F (SR n) .f32) (h : (SR n).ShapeCasts (SR n)) : shapeCast (SR n) v h = v :=
  funext fun j => congrArg v (Shape.reshapeEquiv_self _ j)

section Add
variable {n : ℕ} {hn : 0 < (SR n).numel} {R L : Rows n} {lo lo' : ℕ} {Sx Sr : Finset S1024x512.Idx} {Vx Vr V' : Val F}

/-- Adding rows of one array and rows of another into a third. -/
theorem add_rule (h : R.off c = ![lo, 0]) (h' : L.off c = ![lo', 0]) (hx : band lo n ⊆ Sx) (hr : band lo' n ⊆ Sr)
    (hV : ∀ j, FloatOps.addf (F := F) (φ := .f32) (Vx ((rect R c).emb j)) (Vr ((rect L c).emb j)) = V' ((rect R c).emb j)) {α : Type} {Q : α → sProp 𝕄} (p : Pr F α) :
    iprop(own xM c Sx Vx ∗ own rM c Sr Vr ∗ lent oM c (band lo n))
      ⊢ iprop(((own xM c Sx Vx ∗ own rM c Sr Vr ∗ own oM c (band lo n) V') -∗ wpc c p Q)
        -∗ wpc c (add oM rM xM hn R L c >>= fun _ => p) Q) := by
  simp only [start, await, add, Prog.lift, Prog.bind_op, Prog.bind_ret]
  unfold lent
  iintro ⟨Hx, Hr, ⟨%Vo, Ho⟩⟩ Hk
  iapply (own_load hx h _) $$ Hx
  iintro Hx
  iapply (own_load hr h' _) $$ Hr
  iintro Hr
  iapply (own_load (Finset.Subset.refl _) h _) $$ Ho
  iintro Ho
  iapply (own_store (V' := V') (Finset.Subset.refl _) h _ (fun j => by
    show addf (shapeCast (SR n) _ rfl) _ j = _
    rw [shapeCast_same]; exact hV j) (fun i hi hi' => absurd hi hi')) $$ Ho
  iintro Ho
  iapply Hk
  isplitl [Hx]; · iexact Hx
  isplitl [Hr]; · iexact Hr
  iexact Ho

/-- Adding rows of another array to rows of one. -/
theorem add_to_rule (h : R.off c = ![lo, 0]) (h' : L.off c = ![lo', 0]) (hr : band lo' n ⊆ Sr)
    (hV : ∀ j, FloatOps.addf (F := F) (φ := .f32) (Vx ((rect R c).emb j)) (Vr ((rect L c).emb j)) = V' ((rect R c).emb j)) {α : Type} {Q : α → sProp 𝕄} (p : Pr F α) :
    iprop(own oM c (band lo n) Vx ∗ own rM c Sr Vr)
      ⊢ iprop(((own oM c (band lo n) V' ∗ own rM c Sr Vr) -∗ wpc c p Q)
        -∗ wpc c (add oM rM oM hn R L c >>= fun _ => p) Q) := by
  simp only [start, await, add, Prog.lift, Prog.bind_op, Prog.bind_ret]
  iintro ⟨Ho, Hr⟩ Hk
  iapply (own_load (Finset.Subset.refl _) h _) $$ Ho
  iintro Ho
  iapply (own_load hr h' _) $$ Hr
  iintro Hr
  iapply (own_load (Finset.Subset.refl _) h _) $$ Ho
  iintro Ho
  iapply (own_store (V' := V') (Finset.Subset.refl _) h _ (fun j => by
    show addf (shapeCast (SR n) _ rfl) _ j = _
    rw [shapeCast_same]; exact hV j) (fun i hi hi' => absurd hi hi')) $$ Ho
  iintro Ho
  iapply Hk
  isplitl [Ho]; · iexact Ho
  iexact Hr

end Add

/-! ## What each message hands over, at its sender -/

section Credits
variable {n : ℕ} (R : Rows n) (d : Dev nD)
theorem credit_x : (rows xM R d).view.dmaCredit = Ref.dmaCredit cc0_scratch0 (SR n) .f32 := rfl
theorem credit_o : (rows oM R d).view.dmaCredit = Ref.dmaCredit cc0_scratch0 (SR n) .f32 := rfl
theorem credit_r : (rows rM R d).view.dmaCredit = Ref.dmaCredit cc0_scratch0 (SR n) .f32 := rfl
theorem cr_h (i : Ch) : Ref.dmaCredit cc0_scratch0 (SR (hh i)) .f32 = cr (i, 0) := rfl
theorem cr_q1 (i : Ch) : Ref.dmaCredit cc0_scratch0 (SR (qq i)) .f32 = cr (i, 1) := rfl
theorem cr_q2 (i : Ch) : Ref.dmaCredit cc0_scratch0 (SR (qq i)) .f32 = cr (i, 2) := rfl
theorem cr_q3 (i : Ch) : Ref.dmaCredit cc0_scratch0 (SR (qq i)) .f32 = cr (i, 3) := rfl
theorem cr_h4 (i : Ch) : Ref.dmaCredit cc0_scratch0 (SR (hh i)) .f32 = cr (i, 4) := rfl
end Credits

section Pays
variable (X : Dev nD → Val F) (i : Ch) (c : Dev nD)

/-- A run of rows moved nowhere. -/
theorem mv_same {lo n : ℕ} {j : S1024x512.Idx} (hj : j ∈ band lo n) : mv lo lo j = j := by
  have h := mem_band.mp hj
  funext a
  match a with
  | ⟨0, _⟩ =>
    refine Fin.ext ?_
    show ((j 0).val - lo + lo) % 1024 = (j 0).val
    rw [Nat.sub_add_cancel h.1]; exact Nat.mod_eq_of_lt (j 0).isLt
  | ⟨1, _⟩ => rfl

/-- Part of a run of rows moved as the whole. -/
theorem mv_part {lo src t n : ℕ} {j : S1024x512.Idx} (hj : j ∈ band (lo + t) n) : mv lo src j = mv (lo + t) (src + t) j := by
  have h := mem_band.mp hj
  funext a
  match a with
  | ⟨0, _⟩ =>
    refine Fin.ext ?_
    show ((j 0).val - lo + src) % 1024 = ((j 0).val - (lo + t) + (src + t)) % 1024
    congr 1; omega
  | ⟨1, _⟩ => rfl

theorem p1_p1 : p1 i (p1 i c) = c := nb_nb _ _
theorem p2_p2 : p2 i (p2 i c) = c := nb_nb _ _
theorem p3_p3 : p3 i (p3 i c) = c := nb_nb _ _

theorem off_land2 : (land2 i).off c = ![bb i + hh i, 0] := rfl
theorem off_land3 : (land3 i).off c = ![bb i + hh i + qq i, 0] := rfl

theorem sendPay0 : sendPay X c (i, 0) = own xM c (band (s1 i c) (hh i)) (X c) := rfl
theorem sendPay1 : sendPay X c (i, 1) = iprop(emp) := rfl
theorem sendPay2 : sendPay X c (i, 2) = own oM c (band (kb2 i c) (qq i)) (vB X i c) := rfl
theorem sendPay3 : sendPay X c (i, 3) = own oM c (band (kb2 i c) (qq i)) (vC X i c) := rfl
theorem sendPay4 : sendPay X c (i, 4) = own oM c (band (kb1 i c) (hh i)) (vH X i c) := rfl
theorem recvPay0 : recvPay X c (i, 0) = own rM c (band (bb i) (hh i)) (fun j => X (p1 i c) (mv (bb i) (kb1 i c) j)) := rfl
theorem recvPay1 : recvPay X c (i, 1) = iprop(own rM c (band (bb i + hh i) (qq i)) (fun j => vA X i (p2 i c) (mv (bb i + hh i) (kb2 i c) j))
    ∗ own oM (p2 i c) (band (kb2 i c) (qq i)) (vA X i (p2 i c))) := rfl
theorem recvPay2 : recvPay X c (i, 2)
    = own rM c (band (bb i + hh i + qq i) (qq i)) (fun j => vB X i (p3 i c) (mv (bb i + hh i + qq i) (kb2 i c) j)) := rfl
theorem recvPay3 : recvPay X c (i, 3) = own oM c (band (s2 i c) (qq i)) (vC X i (p2 i c)) := rfl
theorem recvPay4 : recvPay X c (i, 4) = own oM c (band (s1 i c) (hh i)) (vH X i (p1 i c)) := rfl

theorem pay0 : own rM (p1 i c) (band (bb i) (hh i)) (fun j => X c (mv (bb i) (s1 i c) j)) ⊢ recvPay X (p1 i c) (i, 0) := by
  show _ ⊢ own rM (p1 i c) (band (bb i) (hh i)) (fun j => X (p1 i (p1 i c)) (mv (bb i) (kb1 i (p1 i c)) j))
  rw [p1_p1, kb1_p1]

theorem pay1 : iprop(own rM (p2 i c) (band (bb i + hh i) (qq i)) (fun j => vA X i c (mv (bb i + hh i) (s2 i c) j))
    ∗ own oM c (band (s2 i c) (qq i)) (vA X i c)) ⊢ recvPay X (p2 i c) (i, 1) := by
  show _ ⊢ iprop(own rM (p2 i c) (band (bb i + hh i) (qq i)) (fun j => vA X i (p2 i (p2 i c)) (mv (bb i + hh i) (kb2 i (p2 i c)) j))
      ∗ own oM (p2 i (p2 i c)) (band (kb2 i (p2 i c)) (qq i)) (vA X i (p2 i (p2 i c))))
  rw [p2_p2, kb2_p2]

theorem pay2 : own rM (p3 i c) (band (bb i + hh i + qq i) (qq i)) (fun j => vB X i c (mv (bb i + hh i + qq i) (kb2 i c) j))
    ⊢ recvPay X (p3 i c) (i, 2) := by
  show _ ⊢ own rM (p3 i c) (band (bb i + hh i + qq i) (qq i)) (fun j => vB X i (p3 i (p3 i c)) (mv (bb i + hh i + qq i) (kb2 i (p3 i c)) j))
  rw [p3_p3, kb2_p3]

theorem pay3 : own oM (p2 i c) (band (kb2 i c) (qq i)) (fun j => vC X i c (mv (kb2 i c) (kb2 i c) j)) ⊢ recvPay X (p2 i c) (i, 3) := by
  show _ ⊢ own oM (p2 i c) (band (s2 i (p2 i c)) (qq i)) (vC X i (p2 i (p2 i c)))
  rw [p2_p2, s2_p2]
  exact own_congr fun j hj => congrArg _ (mv_same hj)

theorem pay4 : own oM (p1 i c) (band (kb1 i c) (hh i)) (fun j => vH X i c (mv (kb1 i c) (kb1 i c) j)) ⊢ recvPay X (p1 i c) (i, 4) := by
  show _ ⊢ own oM (p1 i c) (band (s1 i (p1 i c)) (hh i)) (vH X i (p1 i (p1 i c)))
  rw [p1_p1, s1_p1]
  exact own_congr fun j hj => congrArg _ (mv_same hj)

end Pays

/-! ## What a chain holds before each step -/

section States
variable (X : Dev nD → Val F) (c : Dev nD) (i : Ch)

/-- Its two halves of the input. -/
def ins : sProp 𝕄 := iprop(own xM c (band (kb1 i c) (hh i)) (X c) ∗ own xM c (band (s1 i c) (hh i)) (X c))

def st0 : sProp 𝕄 :=
  iprop((kit c (i, 0) ∗ kit c (i, 1) ∗ kit c (i, 2) ∗ kit c (i, 3) ∗ kit c (i, 4))
    ∗ ins X c i ∗ lent oM c (band (kb1 i c) (hh i)) ∗ lend i c 0 ∗ lend i c 1 ∗ lend i c 2)
def st1 : sProp 𝕄 :=
  iprop((fly c (i, 0) ∗ kit c (i, 1) ∗ kit c (i, 2) ∗ kit c (i, 3) ∗ kit c (i, 4))
    ∗ own xM c (band (kb1 i c) (hh i)) (X c) ∗ lent oM c (band (kb1 i c) (hh i))
    ∗ lent oM (p1 i c) (band (kb1 i c) (hh i)) ∗ lend i c 1 ∗ lend i c 2)
def st2 : sProp 𝕄 :=
  iprop((over c (i, 0) ∗ fly c (i, 1) ∗ kit c (i, 2) ∗ kit c (i, 3) ∗ kit c (i, 4))
    ∗ ins X c i ∗ own oM c (band (kb2 i c) (qq i)) (vA X i c)
    ∗ lent oM (p1 i c) (band (kb1 i c) (hh i)) ∗ lent rM c (band (bb i) (hh i)) ∗ lend i c 2)
def st3 : sProp 𝕄 :=
  iprop((over c (i, 0) ∗ over c (i, 1) ∗ fly c (i, 2) ∗ kit c (i, 3) ∗ kit c (i, 4))
    ∗ ins X c i ∗ lent oM (p2 i c) (band (kb2 i c) (qq i))
    ∗ lent oM (p1 i c) (band (kb1 i c) (hh i)) ∗ lent rM c (band (bb i) (hh i)) ∗ lent rM c (band (bb i + hh i) (qq i)))
/-- The landing rows, once all three have been used. -/
def outs : sProp 𝕄 :=
  iprop(lent rM c (band (bb i) (hh i)) ∗ lent rM c (band (bb i + hh i) (qq i)) ∗ lent rM c (band (bb i + hh i + qq i) (qq i)))
def st4 : sProp 𝕄 :=
  iprop((over c (i, 0) ∗ over c (i, 1) ∗ over c (i, 2) ∗ fly c (i, 3) ∗ kit c (i, 4))
    ∗ ins X c i ∗ lent oM (p1 i c) (band (kb1 i c) (hh i)) ∗ outs c i)
def st5 : sProp 𝕄 :=
  iprop((over c (i, 0) ∗ over c (i, 1) ∗ over c (i, 2) ∗ over c (i, 3) ∗ fly c (i, 4)) ∗ ins X c i ∗ outs c i)
def st6 : sProp 𝕄 :=
  iprop((over c (i, 0) ∗ over c (i, 1) ∗ over c (i, 2) ∗ over c (i, 3) ∗ over c (i, 4)) ∗ ins X c i ∗ outs c i
    ∗ own oM c (band (kb1 i c) (hh i)) (vH X i c) ∗ own oM c (band (s1 i c) (hh i)) (vH X i (p1 i c)))

end States

/-! ## The steps -/

section Steps
variable (i : Ch) (l : List Ch)

theorem part_A : band (bb i + (1 - coord (ax i 1) c) * qq i) (qq i) ⊆ band (bb i) (hh i) := fun j hj => by
  have h := mem_band.mp hj; have h2 := coord_le (ax i 1) c; have h3 := hh_eq i
  refine mem_band.mpr ?_
  rcases Nat.le_one_iff_eq_zero_or_eq_one.mp h2 with h0 | h0 <;> rw [h0] at h <;> omega
theorem part_B : band (bb i + coord (ax i 1) c * qq i) (qq i) ⊆ band (bb i) (hh i) := fun j hj => by
  have h := mem_band.mp hj; have h2 := coord_le (ax i 1) c; have h3 := hh_eq i
  refine mem_band.mpr ?_
  rcases Nat.le_one_iff_eq_zero_or_eq_one.mp h2 with h0 | h0 <;> rw [h0] at h <;> omega

theorem rule0 {α : Type} {Q : α → sProp 𝕄} (p : Pr F α) :
    iprop(records X K ∗ ow c (due c 0 (i :: l)) ∗ st0 X c i)
      ⊢ iprop(((ow c (due c 0 l) ∗ st1 X c i) -∗ wpc c p Q) -∗ wpc c (step0 xM rM cc0_scratch1 cc0_scratch2 c i >>= fun _ => p) Q) := by
  rw [show due c 0 (i :: l) = _ from due_cons c 0 i l]
  unfold st0 st1 ins lend step0
  iintro ⟨#Hrec, HO, ⟨K0, Ks⟩, ⟨Hk1, Hs1⟩, Ho, ⟨Hr, Hp⟩, Hl⟩ Hk
  iapply (start_rule (X := X) (K := K) (a := xM) (b := rM) (i := i) (k := 0) (R := (tab i).r1) (R' := land1 i) (off_r1 i c) rfl ((credit_r _ _).trans (cr_h i)) .rfl (pay0 X i c) p) $$ [Hs1 Hr HO K0]
  · isplitr; · iexact Hrec
    isplitl [Hs1]; · iexact Hs1
    isplitl [Hr]; · iexact Hr
    isplitl [HO]; · iexact HO
    iexact K0
  iintro ⟨K0, HO⟩
  iapply Hk
  isplitl [HO]; · iexact HO
  isplitl [K0 Ks]
  · isplitl [K0]; · iexact K0
    iexact Ks
  isplitl [Hk1]; · iexact Hk1
  isplitl [Ho]; · iexact Ho
  isplitl [Hp]; · iexact Hp
  iexact Hl

theorem rule1 {α : Type} {Q : α → sProp 𝕄} (p : Pr F α) :
    iprop(records X K ∗ ow c (due c 1 (i :: l)) ∗ st1 X c i)
      ⊢ iprop(((ow c (due c 1 l) ∗ st2 X c i) -∗ wpc c p Q) -∗ wpc c (step1 xM oM rM cc0_scratch1 cc0_scratch2 c i >>= fun _ => p) Q) := by
  have hO : Owes 2 (due c 1 (i :: l)) := owes_due c 1 _
  rw [show due c 1 (i :: l) = _ from due_cons c 1 i l] at hO ⊢
  unfold st1 st2 ins lend step1
  simp only [bind_assoc]
  iintro ⟨#Hrec, HO, ⟨K0, K1, Ks⟩, Hx, Ho, Hp, Hl1, Hl2⟩ Hk
  iapply (await_rule (X := X) (K := K) (i := i) (k := 0) (sendPay0 X i c) (recvPay0 X i c) ((credit_x _ _).trans (cr_h i)) ((credit_r _ _).trans (cr_h i)) hO _) $$ [HO K0]
  · isplitr; · iexact Hrec
    isplitl [HO]; · iexact HO
    iexact K0
  iintro ⟨HO, K0, Hs, Hr⟩
  rw [quarters i c]
  ihave Ho' := (lent_split (quarters_disjoint i c)) $$ Ho
  icases Ho' with ⟨Hob, Hoa⟩
  iapply (add_rule (hn := rows_q i) (R := (tab i).sA) (L := (tab i).rA) (Sx := band (kb2 i c) (qq i) ∪ band (s2 i c) (qq i)) (Vx := X c) (Vr := fun j => X (p1 i c) (mv (bb i) (kb1 i c) j)) (V' := vA X i c) (off_sA i c) (off_rA i c) (Finset.subset_union_right) (part_A i) (fun j => by
    rw [mv_part (emb_mem (off_rA i c) j)]
    exact congrArg (FloatOps.addf (X c _)) (congrArg (X (p1 i c)) (mv_emb (off_sA i c) (off_rA i c) j))) _) $$ [Hx Hr Hoa]
  · isplitl [Hx]; · iexact Hx
    isplitl [Hr]; · iexact Hr
    iexact Hoa
  iintro ⟨Hx, Hr, Hoa⟩
  iapply (start_along_rule (X := X) (K := K) (a := oM) (b := rM) (i := i) (k := 1) (R := (tab i).r2) (R' := land2 i) (off_r2 i c) rfl ((credit_r _ _).trans (cr_q1 i)) .rfl (pay1 X i c) _) $$ [Hoa Hl1 HO K1]
  · isplitr; · iexact Hrec
    isplitl [Hoa]; · iexact Hoa
    isplitl [Hl1]; · iexact Hl1
    isplitl [HO]; · iexact HO
    iexact K1
  iintro ⟨K1, HO⟩
  iapply (add_rule (hn := rows_q i) (R := (tab i).sB) (L := (tab i).rB) (Sx := band (kb2 i c) (qq i) ∪ band (s2 i c) (qq i)) (Vx := X c) (Vr := fun j => X (p1 i c) (mv (bb i) (kb1 i c) j)) (V' := vA X i c) (off_sB i c) (off_rB i c) (Finset.subset_union_left) (part_B i) (fun j => by
    rw [mv_part (emb_mem (off_rB i c) j)]
    exact congrArg (FloatOps.addf (X c _)) (congrArg (X (p1 i c)) (mv_emb (off_sB i c) (off_rB i c) j))) _) $$ [Hx Hr Hob]
  · isplitl [Hx]; · iexact Hx
    isplitl [Hr]; · iexact Hr
    iexact Hob
  iintro ⟨Hx, Hr, Hob⟩
  iapply Hk
  isplitl [HO]; · iexact HO
  isplitl [K0 K1 Ks]
  · isplitl [K0]; · iexact K0
    isplitl [K1]; · iexact K1
    iexact Ks
  isplitl [Hx Hs]
  · isplitl [Hx]; · iexact Hx
    iexact Hs
  isplitl [Hob]; · iexact Hob
  isplitl [Hp]; · iexact Hp
  isplitl [Hr]; · iapply own_lent; iexact Hr
  iexact Hl2

theorem rule2 {α : Type} {Q : α → sProp 𝕄} (p : Pr F α) :
    iprop(records X K ∗ ow c (due c 2 (i :: l)) ∗ st2 X c i)
      ⊢ iprop(((ow c (due c 2 l) ∗ st3 X c i) -∗ wpc c p Q) -∗ wpc c (step2 oM rM cc0_scratch1 cc0_scratch2 c i >>= fun _ => p) Q) := by
  have hO : Owes 3 (due c 2 (i :: l)) := owes_due c 2 _
  rw [show due c 2 (i :: l) = _ from due_cons c 2 i l] at hO ⊢
  unfold st2 st3 ins lend step2
  simp only [bind_assoc]
  iintro ⟨#Hrec, HO, ⟨K0, K1, K2, Ks⟩, Hx, Ho, Hp, Hr1, Hl2⟩ Hk
  iapply (await_rule (X := X) (K := K) (i := i) (k := 1) (sendPay1 X i c) (recvPay1 X i c) ((credit_o _ _).trans (cr_q1 i)) ((credit_r _ _).trans (cr_q1 i)) hO _) $$ [HO K1]
  · isplitr; · iexact Hrec
    isplitl [HO]; · iexact HO
    iexact K1
  iintro ⟨HO, K1, -, ⟨Hr, Hp2⟩⟩
  iapply (add_to_rule (hn := rows_q i) (R := (tab i).sB) (L := land2 i) (Vx := vA X i c) (Vr := fun j => vA X i (p2 i c) (mv (bb i + hh i) (kb2 i c) j)) (V' := vB X i c) (off_sB i c) (off_land2 i c) (Finset.Subset.refl _) (fun j =>
    congrArg (FloatOps.addf (vA X i c _)) (congrArg (vA X i (p2 i c)) (mv_emb (off_sB i c) (off_land2 i c) j))) _) $$ [Ho Hr]
  · isplitl [Ho]; · iexact Ho
    iexact Hr
  iintro ⟨Ho, Hr⟩
  iapply (start_rule (X := X) (K := K) (a := oM) (b := rM) (i := i) (k := 2) (R := (tab i).r3) (R' := land3 i) (off_r3 i c) rfl ((credit_r _ _).trans (cr_q2 i)) .rfl (pay2 X i c) _) $$ [Ho Hl2 HO K2]
  · isplitr; · iexact Hrec
    isplitl [Ho]; · iexact Ho
    isplitl [Hl2]; · iexact Hl2
    isplitl [HO]; · iexact HO
    iexact K2
  iintro ⟨K2, HO⟩
  iapply Hk
  isplitl [HO]; · iexact HO
  isplitl [K0 K1 K2 Ks]
  · isplitl [K0]; · iexact K0
    isplitl [K1]; · iexact K1
    isplitl [K2]; · iexact K2
    iexact Ks
  isplitl [Hx]; · iexact Hx
  isplitl [Hp2]; · iapply own_lent; iexact Hp2
  isplitl [Hp]; · iexact Hp
  isplitl [Hr1]; · iexact Hr1
  iapply own_lent; iexact Hr

theorem rule3 {α : Type} {Q : α → sProp 𝕄} (p : Pr F α) :
    iprop(records X K ∗ ow c (due c 3 (i :: l)) ∗ st3 X c i)
      ⊢ iprop(((ow c (due c 3 l) ∗ st4 X c i) -∗ wpc c p Q) -∗ wpc c (step3 oM rM cc0_scratch1 cc0_scratch2 c i >>= fun _ => p) Q) := by
  have hO : Owes 4 (due c 3 (i :: l)) := owes_due c 3 _
  rw [show due c 3 (i :: l) = _ from due_cons c 3 i l] at hO ⊢
  unfold st3 st4 ins outs step3
  simp only [bind_assoc]
  iintro ⟨#Hrec, HO, ⟨K0, K1, K2, K3, Ks⟩, Hx, Hp2, Hp, Hr1, Hr2⟩ Hk
  iapply (await_rule (X := X) (K := K) (i := i) (k := 2) (sendPay2 X i c) (recvPay2 X i c) ((credit_o _ _).trans (cr_q2 i)) ((credit_r _ _).trans (cr_q2 i)) hO _) $$ [HO K2]
  · isplitr; · iexact Hrec
    isplitl [HO]; · iexact HO
    iexact K2
  iintro ⟨HO, K2, Ho, Hr⟩
  iapply (add_to_rule (hn := rows_q i) (R := (tab i).sB) (L := land3 i) (Vx := vB X i c) (Vr := fun j => vB X i (p3 i c) (mv (bb i + hh i + qq i) (kb2 i c) j)) (V' := vC X i c) (off_sB i c) (off_land3 i c) (Finset.Subset.refl _) (fun j =>
    congrArg (FloatOps.addf (vB X i c _)) (congrArg (vB X i (p3 i c)) (mv_emb (off_sB i c) (off_land3 i c) j))) _) $$ [Ho Hr]
  · isplitl [Ho]; · iexact Ho
    iexact Hr
  iintro ⟨Ho, Hr⟩
  iapply (start_rule (X := X) (K := K) (a := oM) (b := oM) (i := i) (k := 3) (R := (tab i).r3) (R' := (tab i).r3) (off_r3 i c) (off_r3 i c) ((credit_o _ _).trans (cr_q3 i)) .rfl (pay3 X i c) _) $$ [Ho Hp2 HO K3]
  · isplitr; · iexact Hrec
    isplitl [Ho]; · iexact Ho
    isplitl [Hp2]; · iexact Hp2
    isplitl [HO]; · iexact HO
    iexact K3
  iintro ⟨K3, HO⟩
  iapply Hk
  isplitl [HO]; · iexact HO
  isplitl [K0 K1 K2 K3 Ks]
  · isplitl [K0]; · iexact K0
    isplitl [K1]; · iexact K1
    isplitl [K2]; · iexact K2
    isplitl [K3]; · iexact K3
    iexact Ks
  isplitl [Hx]; · iexact Hx
  isplitl [Hp]; · iexact Hp
  isplitl [Hr1]; · iexact Hr1
  isplitl [Hr2]; · iexact Hr2
  iapply own_lent; iexact Hr

/-- A half made of its two quarters. -/
theorem half_made : iprop(own oM c (band (kb2 i c) (qq i)) (vC X i c) ∗ own oM c (band (s2 i c) (qq i)) (vC X i (p2 i c)))
    ⊢ (own oM c (band (kb1 i c) (hh i)) (vH X i c) : sProp 𝕄) := by
  rw [quarters i c]
  refine BI.Entails.trans (BI.sep_mono (own_congr fun j hj => ?_) (own_congr fun j hj => ?_)) (own_join (quarters_disjoint i c))
  · unfold vH; rw [if_pos hj]
  · unfold vH; rw [if_neg (Finset.disjoint_right.mp (quarters_disjoint i c) hj)]

theorem rule4 {α : Type} {Q : α → sProp 𝕄} (p : Pr F α) :
    iprop(records X K ∗ ow c (due c 4 (i :: l)) ∗ st4 X c i)
      ⊢ iprop(((ow c (due c 4 l) ∗ st5 X c i) -∗ wpc c p Q) -∗ wpc c (step4 oM cc0_scratch1 cc0_scratch2 c i >>= fun _ => p) Q) := by
  have hO : Owes 5 (due c 4 (i :: l)) := owes_due c 4 _
  rw [show due c 4 (i :: l) = _ from due_cons c 4 i l] at hO ⊢
  unfold st4 st5 step4
  simp only [bind_assoc]
  iintro ⟨#Hrec, HO, ⟨K0, K1, K2, K3, K4⟩, Hx, Hp, Hr⟩ Hk
  iapply (await_rule (X := X) (K := K) (i := i) (k := 3) (sendPay3 X i c) (recvPay3 X i c) ((credit_o _ _).trans (cr_q3 i)) ((credit_o _ _).trans (cr_q3 i)) hO _) $$ [HO K3]
  · isplitr; · iexact Hrec
    isplitl [HO]; · iexact HO
    iexact K3
  iintro ⟨HO, K3, Ho, Ho'⟩
  iapply (start_rule (X := X) (K := K) (a := oM) (b := oM) (i := i) (k := 4) (R := (tab i).r5) (R' := (tab i).r5) (off_r5 i c) (off_r5 i c) ((credit_o _ _).trans (cr_h4 i)) .rfl (pay4 X i c) _) $$ [Ho Ho' Hp HO K4]
  · isplitr; · iexact Hrec
    isplitl [Ho Ho']
    · iapply half_made
      isplitl [Ho]; · iexact Ho
      iexact Ho'
    isplitl [Hp]; · iexact Hp
    isplitl [HO]; · iexact HO
    iexact K4
  iintro ⟨K4, HO⟩
  iapply Hk
  isplitl [HO]; · iexact HO
  isplitl [K0 K1 K2 K3 K4]
  · isplitl [K0]; · iexact K0
    isplitl [K1]; · iexact K1
    isplitl [K2]; · iexact K2
    isplitl [K3]; · iexact K3
    iexact K4
  isplitl [Hx]; · iexact Hx
  iexact Hr

theorem rule5 {α : Type} {Q : α → sProp 𝕄} (p : Pr F α) :
    iprop(records X K ∗ ow c 0 ∗ st5 X c i)
      ⊢ iprop(((ow c 0 ∗ st6 X c i) -∗ wpc c p Q) -∗ wpc c (step5 oM cc0_scratch1 cc0_scratch2 c i >>= fun _ => p) Q) := by
  unfold st5 st6 step5
  iintro ⟨#Hrec, HO, ⟨K0, K1, K2, K3, K4⟩, Hx, Hr⟩ Hk
  iapply (await_rule (X := X) (K := K) (i := i) (k := 4) (sendPay4 X i c) (recvPay4 X i c) ((credit_o _ _).trans (cr_h4 i)) ((credit_o _ _).trans (cr_h4 i)) (.zero _) _) $$ [HO K4]
  · isplitr; · iexact Hrec
    isplitl [HO]; · iexact HO
    iexact K4
  iintro ⟨HO, K4, Ho, Ho'⟩
  iapply Hk
  isplitl [HO]; · iexact HO
  isplitl [K0 K1 K2 K3 K4]
  · isplitl [K0]; · iexact K0
    isplitl [K1]; · iexact K1
    isplitl [K2]; · iexact K2
    isplitl [K3]; · iexact K3
    iexact K4
  isplitl [Hx]; · iexact Hx
  isplitl [Hr]; · iexact Hr
  isplitl [Ho]; · iexact Ho
  iexact Ho'

end Steps

/-! ## A step of every chain -/

theorem each_eq (f : Ch → Pr F PUnit) {α : Type} (p : Pr F α) :
    (each f >>= fun _ => p) = chains.foldr (fun i q => f i >>= fun _ => q) p := by
  simp only [each, bind_assoc, List.foldr_cons, List.foldr_nil]

/-- If each chain's step takes it from `A` to `B` and pays its debts, all the chains' steps take all of them. -/
theorem each_rule {D : List Ch → CellTallies nD τ sig Unit} {A B : Ch → sProp 𝕄} {f : Ch → Pr F PUnit}
    {α : Type} {Q : α → sProp 𝕄}
    (hf : ∀ i l (p : Pr F α), iprop(records X K ∗ ow c (D (i :: l)) ∗ A i)
      ⊢ iprop(((ow c (D l) ∗ B i) -∗ wpc c p Q) -∗ wpc c (f i >>= fun _ => p) Q)) (p : Pr F α) :
    iprop(records X K ∗ ow c (D chains) ∗ bigSep Finset.univ A)
      ⊢ iprop(((ow c (D []) ∗ bigSep Finset.univ B) -∗ wpc c p Q) -∗ wpc c (each f >>= fun _ => p) Q) := by
  rw [each_eq, bigSep_univ_eq_bigSepL chains (by decide) (by decide), bigSep_univ_eq_bigSepL chains (by decide) (by decide)]
  generalize chains = l
  induction l with
  | nil =>
    iintro ⟨-, HO, H⟩ Hk
    iapply Hk
    isplitl [HO]; · iexact HO
    iexact H
  | cons i l ih =>
    have hc : ∀ Φ : Ch → sProp 𝕄, bigSepL (i :: l) Φ = iprop(Φ i ∗ bigSepL l Φ) := bigSepL_cons i l
    rw [hc, hc, List.foldr_cons]
    iintro ⟨#Hrec, HO, Hi, Hl⟩ Hk
    iapply (hf i l _) $$ [HO Hi]
    · isplitr; · iexact Hrec
      isplitl [HO]; · iexact HO
      iexact Hi
    iintro ⟨HO, Hi⟩
    iapply ih $$ [HO Hl]
    · isplitr; · iexact Hrec
      isplitl [HO]; · iexact HO
      iexact Hl
    iintro ⟨HO, Hl⟩
    iapply Hk
    isplitl [HO]; · iexact HO
    isplitl [Hi]; · iexact Hi
    iexact Hl

end Ops

end Cert.KernelIdeal.Gen
-- ==== Proof.Body.lean ====
/- The whole body on one device: the meeting at the barrier, the six phases, the arrays whole again. -/
module

public import proofs.«01_k».proof.Proof.Steps

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums of three and of five -/

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## The barrier -/

/-- The unit owed to a device's barrier. -/
def knock (e : Dev nD) : CellTallies nD τ sig Unit := tallyAt (barCell e) () 1

/-- What a device owes at the start: its three neighbours a unit each, and every message. -/
def O₀ (c : Dev nD) : CellTallies nD τ sig Unit := due c 0 chains + knock (nb 2 c) + knock (nb 1 c) + knock (nb 0 c)

theorem owes_O₀ (c : Dev nD) : Owes 0 (O₀ c) := by
  have hd : Owes 0 (due c 0 chains) := fun g u h => (owes_due c 0 chains g u h).imp fun ck h => ⟨h.1, by omega⟩
  exact .add (.add (.add hd (.tally _ Nat.zero_lt_one)) (.tally _ Nat.zero_lt_one)) (.tally _ Nat.zero_lt_one)

section Ops
variable {X : Dev nD → Val F} {K : Dev nD × Kd → ℕ} {c : Dev nD}

/-- Signalling the neighbour in one direction. -/
theorem knock_rule {a : Fin 3} {e : Dev nD} (he : e = nb a c) {O : CellTallies nD τ sig Unit} {α : Type} {Q : α → sProp 𝕄} (p : Pr F α) :
    iprop(records X K ∗ ow c (O + knock (nb a c)) ∗ dutyTok ER (barCell (nb a c)) 0 a ∗ barPay (nb a c) a)
      ⊢ iprop((ow c O -∗ wpc c p Q) -∗ wpc c (semSignalWord e barS 1#32 >>= fun _ => p) Q) := by
  subst he
  simp only [semSignalWord, Prog.lift, Prog.bind_op, Prog.bind_ret]
  unfold ow
  iintro ⟨#Hrec, ⟨%W, HO⟩, Ht, Hp⟩ Hk
  iapply (Rounds.wp_signal Variants.none ER (Rd X) (c : Thread nD τ) none (dst := (nb a c : Thread nD τ)) (κ := K (nb a c, none))
      (d := a) (by rw [show ((nb a c : Thread nD τ), SemLoc.reg barS) = kcell (nb a c, none) from rfl, duties_eq]; exact Finset.mem_univ _)
      ((amount_eq X (nb a c) none a).trans (by decide)) () O rfl) $$ [HO Ht Hp]
  · isplitr; · iapply (inv_at X K (nb a c, none)); iexact Hrec
    isplitl [HO]; · iexact HO
    isplitl [Ht]; · iexact Ht
    isplitl [Hp]; · rw [show ((nb a c : Thread nD τ), SemLoc.reg barS) = kcell (nb a c, none) from rfl, payload_eq]; iapply (Entails.of_eq (show (barPay (nb a c) a : sProp 𝕄) = payK X (nb a c) none a from rfl)); iexact Hp
    iapply (reached_at X K (nb a c, none)); iexact Hrec
  iintro HO
  iapply Hk
  iexists W; iexact HO

/-- The meeting: what is handed to each neighbour, and what each hands over. -/
theorem meet_rule {α : Type} {Q : α → sProp 𝕄} (p : Pr F α) :
    iprop(records X K ∗ ow c (O₀ c) ∗ (bigSep Finset.univ fun a => dutyTok ER (barCell (nb a c)) 0 a) ∗ (bigSep Finset.univ fun a => barPay (nb a c) a)
        ∗ cred (tallyAt (barCell c) () 3) ∗ atPos ER (barCell c) 0 ∅ 0)
      ⊢ iprop(((ow c (due c 0 chains) ∗ (bigSep Finset.univ fun a => barPay c a) ∗ atPos ER (barCell c) 1 ∅ 0) -∗ wpc c p Q)
        -∗ wpc c (meet c >>= fun _ => p) Q) := by
  rw [bigSep_three, bigSep_three]
  unfold O₀ meet
  simp only [bind_assoc]
  iintro ⟨#Hrec, HO, ⟨T0, T1, T2⟩, ⟨P0, P1, P2⟩, Hc, Hat⟩ Hk
  iapply (knock_rule (X := X) (K := K) (a := 0) (dev1_eq c) _) $$ [HO T0 P0]
  · isplitr; · iexact Hrec
    isplitl [HO]; · iexact HO
    isplitl [T0]; · iexact T0
    iexact P0
  iintro HO
  iapply (knock_rule (X := X) (K := K) (a := 1) (dev2_eq c) _) $$ [HO T1 P1]
  · isplitr; · iexact Hrec
    isplitl [HO]; · iexact HO
    isplitl [T1]; · iexact T1
    iexact P1
  iintro HO
  iapply (knock_rule (X := X) (K := K) (a := 2) (dev3_eq c) _) $$ [HO T2 P2]
  · isplitr; · iexact Hrec
    isplitl [HO]; · iexact HO
    isplitl [T2]; · iexact T2
    iexact P2
  iintro HO
  unfold ow
  icases HO with ⟨%W, HO⟩
  simp only [semWaitWord, Prog.lift, Prog.bind_op, Prog.bind_ret]
  iapply (Rounds.wp_wait_rest_token Variants.none ER (Rd X) (c : Thread nD τ) none (κ := K (c, none))
      (wpE_semWait_eq Variants.none (c : Thread nD τ) none Set.univ) (Set.mem_univ _) () (O := due c 0 chains) (W := W) (R := 0) (m := 0) (T := ∅)
      ((show 0 + (3#32).toNat = 3 by decide).trans (expect_bar X c).symm)) $$ [Hc HO Hat]
  · isplitr; · iapply (inv_at X K (c, none)); iexact Hrec
    isplitl [Hc]; · iexact Hc
    isplitl [HO]; · iexact HO
    isplitr
    · iapply (may_wait (owes_due c 0 chains) c _ (lv_kcell (c, none)).le)
      iapply (levels_at X K); iexact Hrec
    iexact Hat
  iintro ⟨HO, Hat, -, Hp⟩
  ihave Hp' := (show bigSep ((Rd X).duties ((c : Thread nD τ), SemLoc.reg barS) 0 \ ∅) (fun a => (Rd X).payload ((c : Thread nD τ), SemLoc.reg barS) 0 a)
      ⊢ (bigSep Finset.univ fun a => barPay c a : sProp 𝕄) from Entails.of_eq (rest_eq X c none)) $$ Hp
  iapply Hk
  isplitl [HO]; · iexists _; iexact HO
  isplitl [Hp']; · iexact Hp'
  iexact Hat

/-! ## Sorting what is handed over by chains -/

/-- What a chain hands out, out of its rows. -/
theorem hand_out (i : Ch) : iprop(lent oM c (rowsOf i) ∗ lent rM c (rowsOf i))
    ⊢ (iprop(lent oM c (band (kb1 i c) (hh i)) ∗ bigSep Finset.univ fun a => lend i (nb a c) (pos i a)) : sProp 𝕄) := by
  rw [bigSep_univ_equiv (posE i).symm fun a : Fin 3 => (lend i (nb a c) (pos i a) : sProp 𝕄), bigSep_three]
  show _ ⊢ iprop(_ ∗ lend i (nb (ax i 0) c) (pos i (ax i 0)) ∗ lend i (nb (ax i 1) c) (pos i (ax i 1)) ∗ lend i (nb (ax i 2) c) (pos i (ax i 2)))
  rw [pos_ax, pos_ax, pos_ax]
  unfold lend
  rw [show p1 i (nb (ax i 0) c) = c from nb_nb _ _, show p2 i (nb (ax i 1) c) = c from nb_nb _ _, show p3 i (nb (ax i 2) c) = c from nb_nb _ _,
    show kb1 i (nb (ax i 0) c) = s1 i c from kb1_p1 i c]
  iintro ⟨Ho, Hr⟩
  ihave Ho' := (show lent oM c (rowsOf i) ⊢ (iprop(lent oM c (band (kb1 i c) (hh i)) ∗ lent oM c (band (s1 i c) (hh i))) : sProp 𝕄) from by
    rw [show rowsOf i = _ from halves i c]; exact lent_split (halves_disjoint i c)) $$ Ho
  ihave Hr' := (show lent rM c (rowsOf i) ⊢ (iprop(lent rM c (band (bb i) (hh i)) ∗ lent rM c (band (bb i + hh i) (qq i) ∪ band (bb i + hh i + qq i) (qq i))) : sProp 𝕄) from by
    rw [show rowsOf i = _ from landings i]; exact lent_split (landings_disjoint i)) $$ Hr
  icases Ho' with ⟨Ho, Ho'⟩
  icases Hr' with ⟨Hr, Hr'⟩
  ihave Hr'' := (lent_split (landings_disjoint' i)) $$ Hr'
  icases Hr'' with ⟨Hr1, Hr2⟩
  isplitl [Ho]; · iexact Ho
  isplitl [Hr Ho']
  · isplitl [Hr]; · iexact Hr
    iexact Ho'
  isplitl [Hr1]; · iexact Hr1
  iexact Hr2

/-- What the three neighbours hand over is what each chain borrows. -/
theorem handed : (bigSep Finset.univ fun a => barPay (F := F) c a)
    = (bigSep Finset.univ fun i : Ch => iprop(lend i c 0 ∗ lend i c 1 ∗ lend i c 2) : sProp 𝕄) := by
  unfold barPay
  rw [bigSep_univ_comm]
  refine bigSep_congr fun i _ => ?_
  rw [bigSep_univ_equiv (posE i).symm fun a : Fin 3 => (lend i c (pos i a) : sProp 𝕄), bigSep_three]
  show iprop(lend i c (pos i (ax i 0)) ∗ lend i c (pos i (ax i 1)) ∗ lend i c (pos i (ax i 2))) = _
  rw [pos_ax, pos_ax, pos_ax]

/-! ## The arrays, whole -/

/-- A whole array is its chains' rows. -/
theorem own_chains {a : Arr} {V : Val F} : own a c Finset.univ V ⊢ (bigSep Finset.univ fun i : Ch => own a c (rowsOf i) V : sProp 𝕄) := by
  conv_lhs => rw [← rowsOf_cover]
  exact own_family _ _ rowsOf_disjoint
theorem lent_chains {a : Arr} : lent a c Finset.univ ⊢ (bigSep Finset.univ fun i : Ch => lent (F := F) a c (rowsOf i) : sProp 𝕄) := by
  conv_lhs => rw [← rowsOf_cover]
  exact lent_family _ _ rowsOf_disjoint
theorem own_whole {a : Arr} {V : Val F} : (bigSep Finset.univ fun i : Ch => own a c (rowsOf i) V : sProp 𝕄) ⊢ own a c Finset.univ V := by
  have hu : (Finset.univ : Finset Ch) = insert 0 (Finset.univ.erase 0) := (Finset.insert_erase (Finset.mem_univ _)).symm
  conv_rhs => rw [← rowsOf_cover]
  rw [hu, bigSep_insert (Finset.notMem_erase _ _)]
  exact own_family_join _ _ 0 rowsOf_disjoint (Finset.notMem_erase _ _)
theorem lent_whole {a : Arr} : (bigSep Finset.univ fun i : Ch => lent (F := F) a c (rowsOf i) : sProp 𝕄) ⊢ lent a c Finset.univ := by
  have hu : (Finset.univ : Finset Ch) = insert 0 (Finset.univ.erase 0) := (Finset.insert_erase (Finset.mem_univ _)).symm
  conv_rhs => rw [← rowsOf_cover]
  rw [hu, bigSep_insert (Finset.notMem_erase _ _)]
  exact lent_family_join _ _ 0 rowsOf_disjoint (Finset.notMem_erase _ _)

/-- A chain's rows of the input, by halves and whole. -/
theorem ins_split (i : Ch) : own xM c (rowsOf i) (X c) ⊢ (ins X c i : sProp 𝕄) := by
  unfold ins; rw [show rowsOf i = _ from halves i c]; exact own_split (halves_disjoint i c)
theorem ins_join (i : Ch) : ins X c i ⊢ (own xM c (rowsOf i) (X c) : sProp 𝕄) := by
  unfold ins; rw [show rowsOf i = _ from halves i c]; exact own_join (halves_disjoint i c)
/-- Its landing rows. -/
theorem outs_join (i : Ch) : outs c i ⊢ (lent rM c (rowsOf i) : sProp 𝕄) := by
  unfold outs; rw [show rowsOf i = _ from landings i]
  exact (sep_mono_right (lent_join (landings_disjoint' i))).trans (lent_join (landings_disjoint i))
/-- Its rows of the result. -/
theorem res_join (i : Ch) : iprop(own oM c (band (kb1 i c) (hh i)) (vH X i c) ∗ own oM c (band (s1 i c) (hh i)) (vH X i (p1 i c)))
    ⊢ (own oM c (rowsOf i) (outAt X c) : sProp 𝕄) := by
  have hm : ∀ j, j ∈ band (kb1 i c) (hh i) ∪ band (s1 i c) (hh i) → j ∈ rowsOf i := fun j hj => by
    rw [show rowsOf i = _ from halves i c]; exact hj
  rw [show rowsOf i = _ from halves i c]
  refine BI.Entails.trans (BI.sep_mono (own_congr fun j hj => ?_) (own_congr fun j hj => ?_)) (own_join (halves_disjoint i c))
  · rw [outAt_eq X i c (hm j (Finset.mem_union_left _ hj))]; unfold vO; rw [if_pos hj]
  · rw [outAt_eq X i c (hm j (Finset.mem_union_right _ hj))]; unfold vO; rw [if_neg (Finset.disjoint_right.mp (halves_disjoint i c) hj)]

/-! ## A chain at the start and at the end -/

theorem chain_start (i : Ch) :
    iprop((bigSep Finset.univ fun k : Fin 5 => kit c (i, k)) ∗ own xM c (rowsOf i) (X c) ∗ lent oM c (band (kb1 i c) (hh i)) ∗ (lend i c 0 ∗ lend i c 1 ∗ lend i c 2))
      ⊢ st0 X c i := by
  unfold st0
  rw [bigSep_five]
  iintro ⟨Hk, Hx, Ho, Hl⟩
  isplitl [Hk]; · iexact Hk
  isplitl [Hx]; · iapply (ins_split (X := X)); iexact Hx
  isplitl [Ho]; · iexact Ho
  iexact Hl

theorem chain_end (i : Ch) : st6 X c i
    ⊢ iprop((bigSep Finset.univ fun k : Fin 5 => over c (i, k)) ∗ own xM c (rowsOf i) (X c) ∗ lent rM c (rowsOf i) ∗ own oM c (rowsOf i) (outAt X c)) := by
  unfold st6
  rw [bigSep_five]
  iintro ⟨Hk, Hx, Hr, Ho⟩
  isplitl [Hk]; · iexact Hk
  isplitl [Hx]; · iapply (ins_join (X := X)); iexact Hx
  isplitl [Hr]; · iapply outs_join; iexact Hr
  iapply (res_join (X := X)); iexact Ho

/-- What a device starts with, apart from its arrays. -/
def held (c : Dev nD) : sProp 𝕄 :=
  iprop((bigSep Finset.univ fun a => dutyTok ER (barCell (nb a c)) 0 a) ∗ cred (tallyAt (barCell c) () 3) ∗ atPos ER (barCell c) 0 ∅ 0
    ∗ bigSep Finset.univ fun m : Msg => kit c m)

/-- The body: it ends owing nothing, with the input as it was and the result in place. -/
theorem text_rule {α : Type} {Q : α → sProp 𝕄} (p : Pr F α) :
    iprop(records X K ∗ ow c (O₀ c) ∗ held c ∗ own xM c Finset.univ (X c) ∗ lent oM c Finset.univ ∗ lent rM c Finset.univ)
      ⊢ iprop(((ow c 0 ∗ atPos ER (barCell c) 1 ∅ 0 ∗ (bigSep Finset.univ fun m : Msg => over c m)
            ∗ own xM c Finset.univ (X c) ∗ lent rM c Finset.univ ∗ own oM c Finset.univ (outAt X c)) -∗ wpc c p Q)
        -∗ wpc c (text xM oM rM cc0_scratch1 cc0_scratch2 >>= fun _ => p) Q) := by
  unfold text held
  simp only [bind_assoc]
  have hd : ∀ k : Dev nD → Pr F α, (wpc c (Prog.lift .deviceId >>= k) Q : sProp 𝕄) = wpc c (k c) Q := fun k => wp_deviceId Variants.none (c : Thread nD τ) none Set.univ
  rw [hd]
  iintro ⟨#Hrec, HO, ⟨Ht, Hc, Hat, Hkit⟩, Hx, Ho, Hr⟩ Hk
  ihave Hx' := own_chains $$ Hx
  ihave Ho' := lent_chains $$ Ho
  ihave Hr' := lent_chains $$ Hr
  ihave Hor := (show iprop((bigSep Finset.univ fun i : Ch => lent oM c (rowsOf i)) ∗ (bigSep Finset.univ fun i : Ch => lent rM c (rowsOf i)))
      ⊢ (iprop((bigSep Finset.univ fun i : Ch => lent oM c (band (kb1 i c) (hh i))) ∗ bigSep Finset.univ fun a => barPay (nb a c) a) : sProp 𝕄) from by
    unfold barPay
    rw [← bigSep_sep', bigSep_univ_comm, ← bigSep_sep']
    exact bigSep_mono fun i _ => hand_out i) $$ [Ho' Hr']
  · isplitl [Ho']; · iexact Ho'
    iexact Hr'
  icases Hor with ⟨Ho, Hpay⟩
  iapply (meet_rule (X := X) (K := K) _) $$ [HO Ht Hc Hat Hpay]
  · isplitr; · iexact Hrec
    isplitl [HO]; · iexact HO
    isplitl [Ht]; · iexact Ht
    isplitl [Hpay]; · iexact Hpay
    isplitl [Hc]; · iexact Hc
    iexact Hat
  iintro ⟨HO, Hpay, Hat⟩
  ihave Hl := (Entails.of_eq handed) $$ Hpay
  ihave H := (show iprop((bigSep Finset.univ fun m : Msg => kit c m) ∗ (bigSep Finset.univ fun i : Ch => own xM c (rowsOf i) (X c))
        ∗ (bigSep Finset.univ fun i : Ch => lent oM c (band (kb1 i c) (hh i))) ∗ bigSep Finset.univ fun i : Ch => iprop(lend i c 0 ∗ lend i c 1 ∗ lend i c 2))
      ⊢ (bigSep Finset.univ fun i : Ch => st0 X c i) from by
    rw [bigSep_univ_prod, ← bigSep_sep', ← bigSep_sep', ← bigSep_sep']
    exact bigSep_mono fun i _ => chain_start i) $$ [Hkit Hx' Ho Hl]
  · isplitl [Hkit]; · iexact Hkit
    isplitl [Hx']; · iexact Hx'
    isplitl [Ho]; · iexact Ho
    iexact Hl
  iapply (each_rule (X := X) (K := K) (D := due c 0) (fun i l p => rule0 i l p) _) $$ [HO H]
  · isplitr; · iexact Hrec
    isplitl [HO]; · iexact HO
    iexact H
  rw [due_nil c 0 (by decide)]
  iintro ⟨HO, H⟩
  iapply (each_rule (X := X) (K := K) (D := due c 1) (fun i l p => rule1 i l p) _) $$ [HO H]
  · isplitr; · iexact Hrec
    isplitl [HO]; · iexact HO
    iexact H
  rw [due_nil c 1 (by decide)]
  iintro ⟨HO, H⟩
  iapply (each_rule (X := X) (K := K) (D := due c 2) (fun i l p => rule2 i l p) _) $$ [HO H]
  · isplitr; · iexact Hrec
    isplitl [HO]; · iexact HO
    iexact H
  rw [due_nil c 2 (by decide)]
  iintro ⟨HO, H⟩
  iapply (each_rule (X := X) (K := K) (D := due c 3) (fun i l p => rule3 i l p) _) $$ [HO H]
  · isplitr; · iexact Hrec
    isplitl [HO]; · iexact HO
    iexact H
  rw [due_nil c 3 (by decide)]
  iintro ⟨HO, H⟩
  iapply (each_rule (X := X) (K := K) (D := due c 4) (fun i l p => rule4 i l p) _) $$ [HO H]
  · isplitr; · iexact Hrec
    isplitl [HO]; · iexact HO
    iexact H
  rw [due_end c]
  iintro ⟨HO, H⟩
  iapply (each_rule (X := X) (K := K) (D := fun _ => 0) (fun i _ p => rule5 i p) _) $$ [HO H]
  · isplitr; · iexact Hrec
    isplitl [HO]; · iexact HO
    iexact H
  iintro ⟨HO, H⟩
  ihave H' := (show (bigSep Finset.univ fun i : Ch => st6 X c i)
      ⊢ iprop((bigSep Finset.univ fun m : Msg => over c m) ∗ (bigSep Finset.univ fun i : Ch => own xM c (rowsOf i) (X c))
        ∗ (bigSep Finset.univ fun i : Ch => lent rM c (rowsOf i)) ∗ bigSep Finset.univ fun i : Ch => own oM c (rowsOf i) (outAt X c)) from by
    rw [bigSep_univ_prod, ← bigSep_sep', ← bigSep_sep', ← bigSep_sep']
    exact bigSep_mono fun i _ => chain_end i) $$ H
  icases H' with ⟨Hm, Hx, Hr, Ho⟩
  iapply Hk
  isplitl [HO]; · iexact HO
  isplitl [Hat]; · iexact Hat
  isplitl [Hm]; · iexact Hm
  isplitl [Hx]; · iapply own_whole; iexact Hx
  isplitl [Hr]; · iapply lent_whole; iexact Hr
  iapply own_whole; iexact Ho

/-! ## The cells, closed -/

/-- A message done with leaves both its counters at zero. -/
theorem over_close (m : Msg) : iprop(records X K ∗ over c m) ⊢ |={Set.univ}=> (iprop(semVal (sendCell c m) 0 ∗ semVal (recvCell c m) 0) : sProp 𝕄) := by
  unfold over
  iintro ⟨#Hrec, Hs, Hr⟩
  imod (Rounds.cell_close ER (Rd X) (Set.mem_univ (K (c, some (false, m)))) (fun h => h) (R := 1) (duties_later X (sendCell c m))) $$ [Hs] with Hs
  · isplitr; · iapply (inv_at X K (c, some (false, m))); iexact Hrec
    iexact Hs
  imod (Rounds.cell_close ER (Rd X) (Set.mem_univ (K (c, some (true, m)))) (fun h => h) (R := 1) (duties_later X (recvCell c m))) $$ [Hr] with Hr
  · isplitr; · iapply (inv_at X K (c, some (true, m))); iexact Hrec
    iexact Hr
  imodintro
  isplitl [Hs]; · iexact Hs
  iexact Hr

theorem bar_close : iprop(records X K ∗ atPos ER (barCell c) 1 ∅ 0) ⊢ |={Set.univ}=> (semVal (barCell c) 0 : sProp 𝕄) := by
  iintro ⟨#Hrec, Hs⟩
  imod (Rounds.cell_close ER (Rd X) (Set.mem_univ (K (c, none))) (fun h => h) (R := 1) (duties_later X (barCell c))) $$ [Hs] with Hs
  · isplitr; · iapply (inv_at X K (c, none)); iexact Hrec
    iexact Hs
  imodintro
  iexact Hs

/-- A fact that lasts goes into every summand. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine BI.Entails.trans (sep_mono_left (BI.bigSep_of_persistent S R)) ?_
  rw [← bigSep_sep']
  exact bigSep_mono h

theorem all_close : iprop(records X K ∗ bigSep Finset.univ fun m : Msg => over c m)
    ⊢ |={Set.univ}=> (bigSep Finset.univ fun m : Msg => iprop(semVal (sendCell c m) 0 ∗ semVal (recvCell c m) 0) : sProp 𝕄) :=
  (bigSep_using fun m _ => over_close m).trans (bigSep_fupd _ _)

end Ops

end Cert.KernelIdeal.Gen
-- ==== Proof.Fund.lean ====
/- What the launch deals out: the cells' invariants, the tokens to those who pay with them, the claims. -/
module

public import proofs.«01_k».proof.Proof.Body
public import proofs.«01_k».proof.Proof.Gen.KernelIdeal.Launch

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's own semaphores -/

abbrev osem (bm : Bool × Msg) : SemLoc sig := csem (some bm)

theorem scoped_all : ∀ bm, (osem bm).isScoped .tc = true := by decide +kernel
theorem staged_none : ∀ (w : Fin 2) (s : Fin (spec0 w).nbuf), kindOf (.dma ((spec0 w).sem s)) = none := by decide +kernel

theorem ownSemFacts : Pipeline.OwnSemFacts spec0 osem where
  isScoped := scoped_all
  inj := fun _ _ h => Option.some.inj (csem_injective h)
  disj := fun bm w s h => by
    have h' := (kindOf_csem (some bm)).symm.trans ((congrArg kindOf h).trans (staged_none w s))
    cases h'

/-! ## Sums over the kinds of semaphore -/

theorem bigSep_both (Φ : Bool × Msg → sProp 𝕄) :
    bigSep Finset.univ Φ = (bigSep Finset.univ fun m : Msg => iprop(Φ (false, m) ∗ Φ (true, m))) := by
  rw [bigSep_univ_prod, bigSep_univ_comm]
  exact bigSep_congr fun m _ => bigSep_univ_eq_bigSepL [false, true] (by decide) (by decide) _

theorem bigSep_kinds (Φ : Kd → sProp 𝕄) :
    bigSep Finset.univ Φ = iprop(Φ none ∗ bigSep Finset.univ fun bm => Φ (some bm)) := by
  have h : (Finset.univ : Finset Kd) = insert none (Finset.univ.map Function.Embedding.some) := by
    ext κ; cases κ <;> simp
  rw [h, bigSep_insert (by simp), bigSep_map]; rfl

/-! ## The cells and the tokens minted -/

def allCells : Finset (GSem nD τ sig) := Finset.univ.map ⟨kcell, kcell_injective⟩

/-- A duty of a device's own cells: of its barrier, or of one of its messages' counters. -/
abbrev Duty : Type := Fin 3 ⊕ (Bool × Msg)
def Duty.kind : Duty → Kd
  | .inl _ => none
  | .inr bm => some bm
def Duty.num : Duty → Fin 3
  | .inl a => a
  | .inr _ => 0
def tokOf (cd : Dev nD × Duty) : GSem nD τ sig × ℕ × Fin 3 := (kcell (cd.1, Duty.kind cd.2), 0, Duty.num cd.2)

theorem tokOf_injective : Function.Injective tokOf := by
  rintro ⟨c, d⟩ ⟨c', d'⟩ h
  have h1 : (c, Duty.kind d) = (c', Duty.kind d') := kcell_injective (congrArg Prod.fst h)
  have h2 : Duty.num d = Duty.num d' := congrArg (fun t : GSem nD τ sig × ℕ × Fin 3 => t.2.2) h
  have hc : c = c' := congrArg Prod.fst h1
  have hk : Duty.kind d = Duty.kind d' := congrArg Prod.snd h1
  subst hc
  rcases d with a | bm <;> rcases d' with a' | bm'
  · exact congrArg _ (congrArg Sum.inl h2)
  · cases hk
  · cases hk
  · exact congrArg _ (congrArg Sum.inr (Option.some.inj hk))

def allToks : Finset (GSem nD τ sig × ℕ × Fin 3) := Finset.univ.map ⟨tokOf, tokOf_injective⟩

/-- The element the launch starts from. -/
def u₀ : UU := (initOf (Pipeline.cells cfgs cellOf_inj) (Pipeline.launchToks cfgs cellOf_inj), initOf allCells allToks)

/-- The tokens of a device's own cells, -/
def toks (c : Dev nD) : sProp 𝕄 :=
  iprop((bigSep Finset.univ fun a : Fin 3 => dutyTok ER (barCell c) 0 a)
    ∗ (bigSep Finset.univ fun m : Msg => dutyTok ER (sendCell c m) 0 0) ∗ bigSep Finset.univ fun m : Msg => dutyTok ER (recvCell c m) 0 0)
/-- and those it pays with. -/
def payToks (c : Dev nD) : sProp 𝕄 :=
  iprop((bigSep Finset.univ fun a : Fin 3 => dutyTok ER (barCell (nb a c)) 0 a)
    ∗ (bigSep Finset.univ fun m : Msg => dutyTok ER (sendCell c m) 0 0) ∗ bigSep Finset.univ fun m : Msg => dutyTok ER (recvCell (peer m c) m) 0 0)

theorem toks_around : (bigSep Finset.univ fun c : Dev nD => (toks c : sProp 𝕄)) ⊢ bigSep Finset.univ fun c : Dev nD => payToks c := by
  have hb : (bigSep Finset.univ fun c : Dev nD => bigSep Finset.univ fun a : Fin 3 => (dutyTok ER (barCell c) 0 a : sProp 𝕄))
      = bigSep Finset.univ fun c : Dev nD => bigSep Finset.univ fun a : Fin 3 => dutyTok ER (barCell (nb a c)) 0 a := by
    rw [bigSep_univ_comm, bigSep_univ_comm (fun (c : Dev nD) (a : Fin 3) => (dutyTok ER (barCell (nb a c)) 0 a : sProp 𝕄))]
    exact bigSep_congr fun a _ => bigSep_univ_equiv (flip a) (fun c : Dev nD => (dutyTok ER (barCell c) 0 a : sProp 𝕄))
  have hr : (bigSep Finset.univ fun c : Dev nD => bigSep Finset.univ fun m : Msg => (dutyTok ER (recvCell c m) 0 0 : sProp 𝕄))
      = bigSep Finset.univ fun c : Dev nD => bigSep Finset.univ fun m : Msg => dutyTok ER (recvCell (peer m c) m) 0 0 := by
    rw [bigSep_univ_comm, bigSep_univ_comm (fun (c : Dev nD) (m : Msg) => (dutyTok ER (recvCell (peer m c) m) 0 0 : sProp 𝕄))]
    exact bigSep_congr fun m _ => bigSep_univ_equiv (flip (way m)) (fun c : Dev nD => (dutyTok ER (recvCell c m) 0 0 : sProp 𝕄))
  unfold toks payToks
  rw [bigSep_sep', bigSep_sep', bigSep_sep', bigSep_sep', hb, hr]

section
variable (X : Dev nD → Val F)

/-- What a device is dealt at first, -/
def G (c : Dev nD) : sProp 𝕄 :=
  iprop((bigSep Finset.univ fun κ : Kd => roundState ER (Rd X) (kcell (c, κ)) 0)
    ∗ (bigSep Finset.univ fun κ : Kd => iprop(atPos ER (kcell (c, κ)) 0 ∅ 0 ∗ reached ER (kcell (c, κ)) 0)) ∗ toks c)

/-- what is known of all cells but for the levels, -/
def noted (K : Dev nD × Kd → ℕ) : sProp 𝕄 :=
  iprop((bigSep Finset.univ fun ck : Dev nD × Kd => cellInv ER (Rd X) (K ck) (kcell ck)) ∗ bigSep Finset.univ fun ck : Dev nD × Kd => reached ER (kcell ck) 0)
instance noted_persistent (K : Dev nD × Kd → ℕ) : BI.Persistent (noted X K) := by unfold noted; infer_instance

/-- what is the device's alone, -/
def linear (c : Dev nD) : sProp 𝕄 := iprop((bigSep Finset.univ fun κ : Kd => atPos ER (kcell (c, κ)) 0 ∅ 0) ∗ payToks c)

/-- and what that comes to. -/
def G' (c : Dev nD) : sProp 𝕄 := iprop(∃ K, noted X K ∗ linear c)

theorem fund_ring : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun κ : Kd => Φ (kcell (c, κ)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, ← bigSep_sep', ← bigSep_both (fun bm => (dutyTok ER (kcell (c, some bm)) 0 0 : sProp 𝕄))]
    rfl
  iintro HX
  imod (Rounds.fund ER (Rd X) allCells allToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

end

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun κ : Kd => semVal (kcell (c, κ)) 0 : sProp 𝕄) := by
  rw [unscopedSems0_eq, bigSep_kinds]
  unfold Pipeline.ownSems0
  iintro ⟨HS, HB⟩
  isplitl [HB]; · iexact HB
  iexact HS

section
variable (X : Dev nD → Val F)

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun κ => iprop(∃ n : ℕ, cellInv ER (Rd X) n (kcell (c, κ))))
          ∗ (bigSep Finset.univ fun κ => iprop(atPos ER (kcell (c, κ)) 0 ∅ 0 ∗ reached ER (kcell (c, κ)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun κ : Kd => semVal (kcell (c, κ)) 0) ∗ bigSep Finset.univ fun κ : Kd => roundState ER (Rd X) (kcell (c, κ)) 0)
      ⊢ (|={Set.univ}=> bigSep Finset.univ fun κ => iprop(∃ n : ℕ, cellInv ER (Rd X) n (kcell (c, κ))) : sProp 𝕄) from by
        rw [← bigSep_sep']
        exact (bigSep_mono fun κ _ => (Rounds.body_intro ER (Rd X) (kcell (c, κ))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun κ => iprop(∃ n : ℕ, cellInv ER (Rd X) n (kcell (c, κ))))
          ∗ (bigSep Finset.univ fun κ => iprop(atPos ER (kcell (c, κ)) 0 ∅ 0 ∗ reached ER (kcell (c, κ)) 0)) ∗ toks c) : sProp 𝕄)
      ⊢ bigSep Finset.univ (G' X) := by
  rw [bigSep_sep', bigSep_sep', ← bigSep_univ_prod (fun ck : Dev nD × Kd => iprop(∃ n : ℕ, cellInv ER (Rd X) n (kcell ck))),
    bigSep_congr (s := Finset.univ) (fun (c : Dev nD) _ => bigSep_sep' Finset.univ (fun κ : Kd => (atPos ER (kcell (c, κ)) 0 ∅ 0 : sProp 𝕄)) (fun κ => reached ER (kcell (c, κ)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (n : ℕ) => (cellInv ER (Rd X) n (kcell ck) : sProp 𝕄))) $$ HI
  icases HK with ⟨%K, #HI⟩
  ihave Htk := (toks_around (F := F)) $$ Htok
  iapply (bigSep_using (R := noted X K) (Φ := linear) fun c _ => (show iprop(noted X K ∗ linear c) ⊢ (G' X c : sProp 𝕄) from by
    unfold G'; iintro H; iexists K; iexact H))
  isplitr
  · unfold noted; isplitl; · iexact HI
    iexact HR
  · unfold linear
    rw [bigSep_sep']
    isplitl [Hat]; · iexact Hat
    iexact Htk

/-- All devices' semaphores, at once, become the protocol's. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end

/-! ## The claims -/

/-- A device may claim what its three neighbours owe its barrier and its peers its landings. -/
theorem creds (c : Dev nD) :
    (Pipeline.launchCred O₀ c : sProp 𝕄) ⊢ iprop(cred (tallyAt (barCell c) () 3) ∗ bigSep Finset.univ fun m : Msg => cred (tallyAt (recvCell c m) () (cr m))) := by
  have hO : (O₀ : Dev nD → CellTallies nD τ sig Unit) = fun d => ((∑ m : Msg, debt d m) + knock (nb 2 d) + knock (nb 1 d)) + knock (nb 0 d) :=
    funext fun d => by unfold O₀; rw [due_all]
  have hk (a : Fin 3) : (Pipeline.launchCred (fun d => knock (nb a d)) c : sProp 𝕄) ⊢ cred (tallyAt (barCell c) () 1) :=
    Pipeline.launchCred_tallyAt (SemLoc.reg barS) (nb a) (nb a) (nb_nb a) (nb_nb a) () 1 c
  have hm (m : Msg) : (Pipeline.launchCred (fun d => debt d m) c : sProp 𝕄) ⊢ cred (tallyAt (recvCell c m) () (cr m)) :=
    Pipeline.launchCred_tallyAt (csem (some (true, m))) (peer m) (peer m) (nb_nb _) (nb_nb _) () (cr m) c
  have h3 : (tallyAt (barCell c) () 3 : CellTallies nD τ sig Unit) = tallyAt (barCell c) () 1 + tallyAt (barCell c) () 1 + tallyAt (barCell c) () 1 := by
    funext g; ext; rw [Pi.add_apply, Finsupp.add_apply, Pi.add_apply, Finsupp.add_apply, tallyAt_apply, tallyAt_apply]; split <;> rfl
  rw [hO, Pipeline.launchCred_add, Pipeline.launchCred_add, Pipeline.launchCred_add, Pipeline.launchCred_sum, h3]
  iintro ⟨⟨⟨Hm, H2⟩, H1⟩, H0⟩
  ihave H2' := (hk 2) $$ H2
  ihave H1' := (hk 1) $$ H1
  ihave H0' := (hk 0) $$ H0
  isplitr [Hm]
  · iapply (cred_add _ _).2
    isplitl [H2' H1']
    · iapply (cred_add _ _).2
      isplitl [H2']; · iexact H2'
      iexact H1'
    iexact H0'
  iapply (show (bigSep Finset.univ fun m : Msg => Pipeline.launchCred (fun d => debt d m) c)
    ⊢ (bigSep Finset.univ fun m : Msg => cred (tallyAt (recvCell c m) () (cr m)) : sProp 𝕄) from bigSep_mono fun m _ => hm m)
  iexact Hm

section
variable {X : Dev nD → Val F}

/-- What a device starts from. -/
def entry (X : Dev nD → Val F) (c : Dev nD) : sProp 𝕄 := iprop(∃ K, records X K ∗ held c)

theorem entry_intro (c : Dev nD) : iprop(levAts L lv ∗ Pipeline.launchCred O₀ c ∗ G' X c) ⊢ (entry X c : sProp 𝕄) := by
  unfold G' entry noted linear payToks records held kit
  rw [bigSep_kinds, bigSep_both]
  simp only [bigSep_sep']
  iintro ⟨#Hlev, Hcr, ⟨%K, ⟨#HI, #HR⟩, ⟨HaB, HaS, HaV⟩, HtB, HtS, HtV⟩⟩
  ihave Hc := (creds (F := F) c) $$ Hcr
  icases Hc with ⟨HcB, HcV⟩
  iexists K
  isplitr
  · isplitr; · iexact HI
    isplitr; · iexact HR
    iexact Hlev
  isplitl [HtB]; · iexact HtB
  isplitl [HcB]; · iexact HcB
  isplitl [HaB]; · iexact HaB
  isplitl [HaS]; · iexact HaS
  isplitl [HaV]; · iexact HaV
  isplitl [HtS]; · iexact HtS
  isplitl [HtV]; · iexact HtV
  iexact HcV

end

end Cert.KernelIdeal.Gen
-- ==== Proof.Text.lean ====
/- The kernel's printed body is the text of `Tables`. -/
module

public import proofs.«01_k».proof.Proof.Tables

@[expose] public section

noncomputable section

namespace Cert.KernelIdeal.Gen

open Idealize.ShloMosaic Idealize.SL.Sem

variable {F : FTy → Type} [FloatOps F]

set_option maxRecDepth 100000 in
set_option maxHeartbeats 0 in
/-- The printed body, its parts put in line. -/
theorem body_eq (x : Memref sig .tc .vmem S1024x512 .f32) (hx : x.IsWhole) (o : Memref sig .tc .vmem S1024x512 .f32) (ho : o.IsWhole)
    (r : Memref sig .tc .vmem S1024x512 .f32) (hr : r.IsWhole) (sS sR : DmaSems sig S45) :
    cc0_body (F := F) x hx o ho r hr sS sR = text x o r sS sR := by
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, bind_assoc, pure_bind]
  simp only [text, meet, each, step0, step1, step2, step3, step4, step5, start, await, add, bind_assoc, pure_bind]
  rfl

end Cert.KernelIdeal.Gen
-- ==== Proof.Run.lean ====
/- The launch: every device's body runs from what it is dealt, and the whole ends with the result in place. -/
module

public import proofs.«01_k».proof.Proof.Fund
public import proofs.«01_k».proof.Proof.Text
public import Idealize.ShloMosaic.Lib.Pipeline.CollectiveSegs

@[expose] public section

noncomputable section

namespace Cert.KernelIdeal.Gen

open Idealize.ShloMosaic
open Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- What the input's staging buffer holds once fetched. -/
def xstg (c : Dev nD) : Val F := (win0_0.blk (0 : Fin 1)).view.read (Elt F) ((s₀ m ρ).mem ((c : Thread nD τ).loc main_arg0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop(entry (xstg m ρ) c ∗ ∃ f : Buf (Elt F) ((c : Thread nD τ).loc cc0_scratch0), ((c : Thread nD τ).loc cc0_scratch0) ↦{fullShare} f)
def Φ₁ (c : Dev nD) : sProp 𝕄 :=
  iprop((∃ f : Buf (Elt F) ((c : Thread nD τ).loc cc0_scratch0), ((c : Thread nD τ).loc cc0_scratch0) ↦{fullShare} f)
    ∗ semVal (barCell c) 0 ∗ bigSep Finset.univ fun bm => semVal (kcell (c, some bm)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt (xstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

/-! ## The body -/

attribute [local irreducible] cc0_body text

/-- An array held at some contents, whole. -/
abbrev stg (c : Dev nD) (a : Arr) (V : Val F) : sProp 𝕄 := owns (Ix := Unit) (Name := ℕ) (U := UU) (Lvl := ℕ) (c : Thread nD τ) a fullShare V

theorem stg_own {c : Dev nD} {a : Arr} {V : Val F} : stg c a V ⊢ (own a c Finset.univ V : sProp 𝕄) := by
  unfold stg owns own
  iintro ⟨%f, %hf, H⟩
  iexists f
  isplitr
  · ipureintro; exact fun i _ => congrFun hf i
  iexact H
theorem own_stg {c : Dev nD} {a : Arr} {V : Val F} : own a c Finset.univ V ⊢ (stg c a V : sProp 𝕄) := by
  unfold stg owns own
  iintro ⟨%f, %hf, H⟩
  iexists f
  isplitr
  · ipureintro; exact funext fun i => hf i (Finset.mem_univ i)
  iexact H

/-- The scratch array, held at some contents. -/
theorem scr_lent (c : Dev nD) : (iprop(∃ f : Buf (Elt F) ((c : Thread nD τ).loc cc0_scratch0), ((c : Thread nD τ).loc cc0_scratch0) ↦{fullShare} f) : sProp 𝕄)
    ⊢ lent rM c Finset.univ := by
  iintro ⟨%f, H⟩
  iapply own_lent (V := (rM : Arr).view.read (Elt F) f)
  iapply stg_own
  unfold stg owns
  iexists f
  isplitr; · ipureintro; rfl
  rw [View.set_whole]
  iexact H
theorem lent_scr (c : Dev nD) : (lent rM c Finset.univ : sProp 𝕄)
    ⊢ iprop(∃ f : Buf (Elt F) ((c : Thread nD τ).loc cc0_scratch0), ((c : Thread nD τ).loc cc0_scratch0) ↦{fullShare} f) := by
  unfold lent
  iintro ⟨%V, H⟩
  ihave H' := own_stg $$ H
  unfold stg owns
  icases H' with ⟨%f, -, H⟩
  rw [View.set_whole]
  iexists f
  iexact H

def bodyPre (c : Dev nD) : sProp 𝕄 :=
  iprop(Φ₀ m ρ c ∗ (dats m ρ 0 c).owesAt () t₀.castSucc
    ∗ (∃ d, stg c xM ((dats m ρ 0 c).before (0 : Fin 2) t₀ d)) ∗ (∃ d, stg c oM ((dats m ρ 0 c).before (1 : Fin 2) t₀ d)))

def bodyPost (c : Dev nD) : sProp 𝕄 :=
  iprop(Φ₁ c ∗ (dats m ρ 0 c).owesAt () t₀.succ ∗ stg c xM (xstg m ρ c) ∗ stg c oM (outAt (xstg m ρ) c))

set_option maxRecDepth 4000 in
theorem sound_body (c : Dev nD) (Kt : PUnit → sProp 𝕄) :
    iprop(bodyPre m ρ c ∗ (bodyPost m ρ c -∗ Kt ⟨⟩))
      ⊢ wp frame (wpE (defs₀ (F := F)) Variants.none c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  rw [body_eq]
  show _ ⊢ wpc c (text xM oM rM cc0_scratch1 cc0_scratch2) Kt
  have ht : (text xM oM rM cc0_scratch1 cc0_scratch2 : Pr F PUnit) = text xM oM rM cc0_scratch1 cc0_scratch2 >>= fun _ => pure ⟨⟩ := (bind_pure _).symm
  rw [ht]
  unfold bodyPre Φ₀ entry
  iintro ⟨⟨⟨⟨%K, #Hrec, Hheld⟩, Hscr⟩, Ho, ⟨%d0, Hx⟩, ⟨%d1, Hout⟩⟩, Hk⟩
  have hx : (dats m ρ 0 c).before (0 : Fin 2) t₀ d0 = xstg m ρ c := by unfold Dat.before; rw [if_pos (fetch_0 t₀)]; rfl
  rw [hx]
  unfold Dat.owesAt Pipeline.owesWithin
  icases Ho with ⟨%W, %hW, HO⟩
  rw [show (dats m ρ 0 c).owed t₀.castSucc = O₀ c from rfl]
  iapply (text_rule (X := xstg m ρ) (K := K) (c := c) _) $$ [Hheld Hscr HO Hx Hout]
  · isplitr; · iexact Hrec
    isplitl [HO]; · unfold ow; iexists W; iexact HO
    isplitl [Hheld]; · iexact Hheld
    isplitl [Hx]; · iapply stg_own; iexact Hx
    isplitl [Hout]
    · iapply own_lent (V := (dats m ρ 0 c).before (1 : Fin 2) t₀ d1)
      iapply stg_own; iexact Hout
    iapply (scr_lent (F := F) c); iexact Hscr
  iintro ⟨HO, Hat, Hm, Hx, Hr, Ho⟩
  imod (bar_close (X := xstg m ρ) (K := K) (c := c)) $$ [Hat] with HzB
  · isplitr; · iexact Hrec
    iexact Hat
  imod (all_close (X := xstg m ρ) (K := K) (c := c)) $$ [Hm] with Hz
  · isplitr; · iexact Hrec
    iexact Hm
  rw [Prog.pure_eq_ret, wp_ret]
  imodintro
  iapply Hk
  unfold bodyPost Φ₁ Dat.owesAt Pipeline.owesWithin ow
  icases HO with ⟨%W', HO⟩
  rw [show (dats m ρ 0 c).owed t₀.succ = 0 from rfl, bigSep_both]
  isplitl [Hr HzB Hz]
  · isplitl [Hr]; · iapply (lent_scr (F := F) c); iexact Hr
    isplitl [HzB]; · iexact HzB
    iexact Hz
  isplitl [HO]
  · iexists W'
    isplitr; · ipureintro; exact fun _ _ => Or.inl trivial
    iexact HO
  isplitl [Hx]; · iapply own_stg; iexact Hx
  iapply own_stg; iexact Ho

set_option maxRecDepth 4000 in
theorem body_obligation (c : Dev nD) : BodyObligation (dats (F := F) m ρ 0 c) (defs₀ (F := F)) Variants.none () Set.univ := fun t => by
  rw [fin_N t]
  rw [bigSep_W, bigSep_W]
  show bodyPre m ρ c ⊢ wp frame (wpE (defs₀ (F := F)) Variants.none c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  iintro H
  iapply (sound_body m ρ c fun _ => bodyPost m ρ c)
  isplitl [H]; · iexact H
  iintro H; iexact H

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m ρ) c)
      ⊢ |={Set.univ}=> iprop(entry (xstg m ρ) c ∗ emp) := by
  iintro ⟨-, Hlev, Hcr, -, HG⟩
  imodintro
  isplitl
  · iapply (entry_intro (X := xstg m ρ) c)
    isplitl [Hlev]; · iexact Hlev
    isplitl [Hcr]; · iexact Hcr
    iexact HG
  · iempintro

theorem phi0_intro (c : Dev nD) :
    iprop(entry (xstg m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    have h : lv ((c : Thread nD τ), .dma ((spec0 w).sem s)) () ≤ 0 := by
      show (kindOf (.dma ((spec0 w).sem s))).elim 0 lvK ≤ 0
      rw [staged_none w s]; exact le_rfl
    rcases t with ⟨_ | _, ht⟩
    · exact may_wait (owes_O₀ c) c _ h
    · exact may_wait (.zero 0) c _ h

/-! ## The run -/

/-- What an array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, whatever the float values: every execution ends, with each array as computed and
    every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_ring (xstg m ρ)) $$ HX with HG
      imodintro
      isplitl [HP] <;> iassumption)
    (hglob := glob (xstg m ρ))
    (hA := fun _ _ => rfl) (hpf := fun _ k => k.elim0)
    (X := entry (xstg m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input ends as it began. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Gen
-- ==== Proof.Value.lean ====
/- What the result is. Every device's output is, at each element, the eight devices' inputs added up; over the extended
   reals, where addition may be regrouped and reordered, that is the sum the reference takes of the whole array's eight
   blocks of rows. -/
module

public import proofs.«01_k».proof.Proof.Run
public import proofs.«01_k».proof.Proof.Gen.ReferenceIdeal.Run
public import Idealize.ShloMosaic.Lib.Layout
public import Idealize.ShloMosaic.Lib.Pipeline.Value
public import Idealize.ShloMosaic.Lib.IdealHost
public import Idealize.ShloMosaic.Lib.Pointwise.Reduce
public import Idealize.ShloMosaic.PureOps.Ideal.Laws

@[expose] public section

noncomputable section

namespace Cert.KernelIdeal.Gen

open Idealize.ShloMosaic
open Idealize.ShloMosaic.TcCoe
open Idealize.SL.Sem
open Idealize.ShloMosaic.ValueIdx (ix3)

/-! ## The output buffer, for any float values -/

section AnyFloats
variable {F : FTy → Type} [FloatOps F] (m : (ℓ : Loc nD τ sig) → Buf (Elt F) ℓ) (ρ : Dev nD → PrngReg)

/-- The one block of the input is the whole input, -/
theorem read_input (f : Val F) : (win0_0.blk (0 : Fin 1)).view.read (Elt F) f = f :=
  Memref.read_access_unit_zero (Elt F) main_arg0 (funext fun a => by fin_cases a <;> decide)
    (fun a => by fin_cases a <;> decide) f

/-- and that of the output the whole output. -/
theorem read_output (f : Val F) : (win0_1.blk (0 : Fin 1)).view.read (Elt F) f = f :=
  Memref.read_access_unit_zero (Elt F) main_v1 (funext fun a => by fin_cases a <;> decide)
    (fun a => by fin_cases a <;> decide) f

/-- A device's input array as it was at launch. -/
def input (c : Dev nD) : Val F := m ((c : Thread nD τ).loc main_arg0)

theorem xstg_eq : xstg m ρ = input m := funext fun c => read_input (m ((c : Thread nD τ).loc main_arg0))

/-- The output array ends as the chains leave the staging buffer. -/
theorem output_eq (c : Dev nD) : finalA m ρ c (1 : Fin 2) = outAt (input m) c := by
  have step := (dats m ρ 0 c).arrAt_succ (1 : Fin 2) (0 : Fin 1)
  rw [if_pos (show (cfg0.win (1 : Fin 2)).flush (0 : Fin 1) = true by decide)] at step
  refine (read_output _).symm.trans ?_
  rw [← xstg_eq m ρ]
  exact (congrArg ((win0_1.blk (0 : Fin 1)).view.read (Elt F)) step).trans (View.read_write_univ _ _)

end AnyFloats

/-! ## Eight inputs added up -/

/-- The eight devices a chain's third sum takes from, in its order. -/
def reach (i : Ch) (d : Dev nD) : List (Dev nD) :=
  [d, p1 i d, p2 i d, p1 i (p2 i d), p3 i d, p1 i (p3 i d), p2 i (p3 i d), p1 i (p2 i (p3 i d))]

/-- They are all the devices, each once. -/
theorem reach_all : ∀ i d, (reach i d).Nodup ∧ (reach i d).toFinset = Finset.univ := by decide +kernel

section Sums
variable (X : Dev nD → Val Ideal)

/-- All the inputs added up. -/
def total : Val Ideal := fun j => (∑ e : Dev nD, (X e j : EReal) : EReal)

theorem vC_total (i : Ch) (d : Dev nD) : vC X i d = total X := by
  funext j
  show (((X d j + X (p1 i d) j) + (X (p2 i d) j + X (p1 i (p2 i d)) j))
    + ((X (p3 i d) j + X (p1 i (p3 i d)) j) + (X (p2 i (p3 i d)) j + X (p1 i (p2 i (p3 i d))) j)) : EReal)
      = ∑ e : Dev nD, (X e j : EReal)
  rw [← (reach_all i d).2, List.sum_toFinset _ (reach_all i d).1]
  simp only [reach, List.map_cons, List.map_nil, List.sum_cons, List.sum_nil, add_zero, add_assoc]

theorem vO_total (i : Ch) (d : Dev nD) : vO X i d = total X := by
  have h : ∀ e, vH X i e = total X := fun e => funext fun j => by
    unfold vH; split <;> rw [vC_total]
  funext j
  unfold vO; split <;> rw [h]

theorem outAt_total (d : Dev nD) : outAt X d = total X := funext fun j => by
  unfold outAt; rw [vO_total]

end Sums

/-! ## The reference's sum -/

/-- The sum over the blocks of rows, at an element, when each device's input is its block. -/
theorem reference_total (W : (⟨2, ![8192, 512]⟩ : Shape).Idx → EReal) (X : Dev nD → Val Ideal)
    (hL : Layout.Tiles ⟨2, ![1024, 512]⟩ ⟨2, ![8192, 512]⟩ 0 8)
    (hX : ∀ c : Dev nD, X c = Layout.block ⟨2, ![1024, 512]⟩ ⟨2, ![8192, 512]⟩ 0 8 c W hL)
    (hs : (⟨2, ![8192, 512]⟩ : Shape).ShapeCasts ⟨3, ![8, 1024, 512]⟩)
    (hr : (⟨3, ![8, 1024, 512]⟩ : Shape).ReducesTo [0] ⟨2, ![1024, 512]⟩) (hu : 0 < (⟨0, ![]⟩ : Shape).numel) :
    Host.reduceAdd (F := Ideal) (φ := .f32) (shapeCast ⟨3, ![8, 1024, 512]⟩ W hs) (constant ⟨0, ![]⟩ .f32 0x00000000#32) hr hu = total X := by
  funext j
  rw [ValueIdx.hostReduceAdd_apply, Ideal.hostReduceAdd_r3_a0]
  rw [show constant (F := Ideal) ⟨0, ![]⟩ .f32 0x00000000#32 (Shape.Idx.first hu) = (0 : EReal) from Ideal.ofBits_zero_f32, zero_add]
  refine Finset.sum_congr rfl fun k _ => ?_
  rw [hX k]
  refine shapeCast_apply W hs _ (hL.idx k j) ?_
  rw [Shape.rowMajor_val_two, Shape.rowMajor_val_three, (Layout.idx_rows_val hL k j).1, (Layout.idx_rows_val hL k j).2]
  rfl

end Cert.KernelIdeal.Gen

end
-- ==== Proof.Same.lean ====
/- The kernel and its idealized text are one program: no operation was replaced. -/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

theorem body_same : Cert.Kernel.cc0_body (F := F) = Cert.KernelIdeal.cc0_body (F := F) := rfl

/-- The tables of bodies: at the one label, on each kind of processor. -/
theorem bodies_same : Cert.Kernel.defs₀ (F := F) = Cert.KernelIdeal.defs₀ (F := F) := by
  funext p l a
  have hl : l = (0 : Fin 1) := Subsingleton.elim (α := Fin 1) _ _
  subst hl
  cases p <;> rfl

theorem defs_same : Cert.Kernel.defs (F := F) = Cert.KernelIdeal.defs (F := F) :=
  congrArg (Pipeline.defs (Cert.KernelIdeal.pcfgs (F := F))) bodies_same

/-- So what is shown of every execution of the one holds of the other's. -/
theorem run_same (s : MemSt Cert.KernelIdeal.nD Cert.KernelIdeal.τ Cert.KernelIdeal.sig (Elt F))
    (Q : PUnit × MemSt Cert.KernelIdeal.nD Cert.KernelIdeal.τ Cert.KernelIdeal.sig (Elt F) → Prop) :
    θ_run (Cert.Kernel.defs (F := F)) (onTc (τ := Cert.Kernel.τ) (Cert.Kernel.main (F := F))) s Q
      = θ_run (Cert.KernelIdeal.defs (F := F)) (onTc (τ := Cert.KernelIdeal.τ) (Cert.KernelIdeal.main (F := F))) s Q :=
  congrArg (fun D => θ_run D (onTc (τ := Cert.KernelIdeal.τ) (Cert.KernelIdeal.main (F := F))) s Q) defs_same

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-! ## Every program ends, its inputs as they were and its counters zero -/

/-- From any memory, whatever the float values, the kernel ends with its inputs as they were and its counters zero. -/
theorem kernel_ends {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono
    (fun _ h => ⟨fun c => (h.1 c (0 : Fin 2)).trans (Cert.KernelIdeal.Gen.finalA_x m ρ c), h.2⟩)
    (Cert.KernelIdeal.Gen.run_main m ρ)

theorem frame_kernel : Cert.quiescent_Kernel := fun m ρ _ => (run_same _ _).mpr (kernel_ends (F := Bits) m ρ)

theorem frame_kernel_ideal : Cert.quiescent_KernelIdeal := fun m ρ _ => kernel_ends (F := Ideal) m ρ

/-- The reference has no semaphores at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-! ## The two agree -/

/-- Both end at the sum of the eight blocks of rows. -/
theorem agree : Cert.algebraic_KernelIdeal_ReferenceIdeal := fun m g m' g' _ hm =>
  ⟨Cert.KernelIdeal.Gen.total (Cert.KernelIdeal.Gen.input m),
    (θ_run Cert.KernelIdeal.defs _ _).mono
      (fun _ h c => ⟨(h.1 c (1 : Fin 2)).trans ((Cert.KernelIdeal.Gen.output_eq m g c).trans (Cert.KernelIdeal.Gen.outAt_total _ c)),
        (h.1 c (0 : Fin 2)).trans (Cert.KernelIdeal.Gen.finalA_x m g c)⟩)
      (Cert.KernelIdeal.Gen.run_main (F := Ideal) m g),
    (θ_run Cert.ReferenceIdeal.defs _ _).mono
      (fun _ h => ⟨(h 0).1.trans (Cert.KernelIdeal.Gen.reference_total _ _ _ hm _ _ _), (h 0).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_kernel_ideal, frame_reference, trivial, agree⟩

end Cert.Proof

end
